-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_pool_input_finite [hPre_pool_input_finite : Cert.Pre_pool_input_finite.Facts] (m : (ℓ : Loc Cert.KernelIdeal.nD Cert.KernelIdeal.τ Cert.KernelIdeal.sig) → Buf (Elt Ideal) ℓ) : Prop :=
  ∀ c : Dev Cert.KernelIdeal.nD,
    (Cert.Pre_pool_input_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pool_input_finite [hPre_pool_input_finite : Cert.Pre_pool_input_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pool_input_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_pool_input_finite [hKernelIdeal : Cert.KernelIdeal.Facts] [hPre_pool_input_finite : Cert.Pre_pool_input_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pool_input_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_pool_input_finite [hReferenceIdeal : Cert.ReferenceIdeal.Facts] [hPre_pool_input_finite : Cert.Pre_pool_input_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pool_input_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def preserves_Kernel_KernelIdeal : Prop :=
  True

def algebraic_KernelIdeal_ReferenceIdeal_pre_pool_input_finite [hKernelIdeal : Cert.KernelIdeal.Facts] [hReferenceIdeal : Cert.ReferenceIdeal.Facts] [hPre_pool_input_finite : Cert.Pre_pool_input_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pool_input_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v212) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v19_0)) (v1 : (c : Dev Cert.Kernel2Ideal.nD) → Buf (Elt Ideal) ((c.tc : Thread Cert.Kernel2Ideal.nD Cert.Kernel2Ideal.τ).loc Cert.Kernel2Ideal.main_v19_1)) (v2 : (c : Dev Cert.Kernel2Ideal.nD) → Buf (Elt Ideal) ((c.tc : Thread Cert.Kernel2Ideal.nD Cert.Kernel2Ideal.τ).loc Cert.Kernel2Ideal.main_v19_2)) (v3 : (c : Dev Cert.Kernel2Ideal.nD) → Buf (Elt Ideal) ((c.tc : Thread Cert.Kernel2Ideal.nD Cert.Kernel2Ideal.τ).loc Cert.Kernel2Ideal.main_v19_3)) (v4 : (c : Dev Cert.Kernel2Ideal.nD) → Buf (Elt Ideal) ((c.tc : Thread Cert.Kernel2Ideal.nD Cert.Kernel2Ideal.τ).loc Cert.Kernel2Ideal.main_v19_4)) (v5 : (c : Dev Cert.Kernel2Ideal.nD) → Buf (Elt Ideal) ((c.tc : Thread Cert.Kernel2Ideal.nD Cert.Kernel2Ideal.τ).loc Cert.Kernel2Ideal.main_v19_5)) (v6 : (c : Dev Cert.Kernel2Ideal.nD) → Buf (Elt Ideal) ((c.tc : Thread Cert.Kernel2Ideal.nD Cert.Kernel2Ideal.τ).loc Cert.Kernel2Ideal.main_v19_6)) (v7 : (c : Dev Cert.Kernel2Ideal.nD) → Buf (Elt Ideal) ((c.tc : Thread Cert.Kernel2Ideal.nD Cert.Kernel2Ideal.τ).loc Cert.Kernel2Ideal.main_v19_7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v19_0) = v0 c
          ∧ r.2.mem ((c.tc : Thread Cert.Kernel2Ideal.nD Cert.Kernel2Ideal.τ).loc Cert.Kernel2Ideal.main_v19_1) = v1 c
          ∧ r.2.mem ((c.tc : Thread Cert.Kernel2Ideal.nD Cert.Kernel2Ideal.τ).loc Cert.Kernel2Ideal.main_v19_2) = v2 c
          ∧ r.2.mem ((c.tc : Thread Cert.Kernel2Ideal.nD Cert.Kernel2Ideal.τ).loc Cert.Kernel2Ideal.main_v19_3) = v3 c
          ∧ r.2.mem ((c.tc : Thread Cert.Kernel2Ideal.nD Cert.Kernel2Ideal.τ).loc Cert.Kernel2Ideal.main_v19_4) = v4 c
          ∧ r.2.mem ((c.tc : Thread Cert.Kernel2Ideal.nD Cert.Kernel2Ideal.τ).loc Cert.Kernel2Ideal.main_v19_5) = v5 c
          ∧ r.2.mem ((c.tc : Thread Cert.Kernel2Ideal.nD Cert.Kernel2Ideal.τ).loc Cert.Kernel2Ideal.main_v19_6) = v6 c
          ∧ r.2.mem ((c.tc : Thread Cert.Kernel2Ideal.nD Cert.Kernel2Ideal.τ).loc Cert.Kernel2Ideal.main_v19_7) = v7 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v45) = v0 c
          ∧ r.2.mem ((c.tc : Thread Cert.Reference2Ideal.nD Cert.Reference2Ideal.τ).loc Cert.Reference2Ideal.main_v48) = v1 c
          ∧ r.2.mem ((c.tc : Thread Cert.Reference2Ideal.nD Cert.Reference2Ideal.τ).loc Cert.Reference2Ideal.main_v49) = v2 c
          ∧ r.2.mem ((c.tc : Thread Cert.Reference2Ideal.nD Cert.Reference2Ideal.τ).loc Cert.Reference2Ideal.main_v50) = v3 c
          ∧ r.2.mem ((c.tc : Thread Cert.Reference2Ideal.nD Cert.Reference2Ideal.τ).loc Cert.Reference2Ideal.main_v51) = v4 c
          ∧ r.2.mem ((c.tc : Thread Cert.Reference2Ideal.nD Cert.Reference2Ideal.τ).loc Cert.Reference2Ideal.main_v44) = v5 c
          ∧ r.2.mem ((c.tc : Thread Cert.Reference2Ideal.nD Cert.Reference2Ideal.τ).loc Cert.Reference2Ideal.main_v52) = v6 c
          ∧ r.2.mem ((c.tc : Thread Cert.Reference2Ideal.nD Cert.Reference2Ideal.τ).loc Cert.Reference2Ideal.main_v53) = v7 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_pool_input_finite : Cert.Pre_pool_input_finite.Facts),
    quiescent_Kernel (hKernel := hKernel)
    ∧ quiescent_KernelIdeal (hKernelIdeal := hKernelIdeal)
    ∧ quiescent_KernelIdeal_pre_pool_input_finite (hKernelIdeal := hKernelIdeal) (hPre_pool_input_finite := hPre_pool_input_finite)
    ∧ quiescent_ReferenceIdeal (hReferenceIdeal := hReferenceIdeal)
    ∧ quiescent_ReferenceIdeal_pre_pool_input_finite (hReferenceIdeal := hReferenceIdeal) (hPre_pool_input_finite := hPre_pool_input_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_pool_input_finite (hKernelIdeal := hKernelIdeal) (hReferenceIdeal := hReferenceIdeal) (hPre_pool_input_finite := hPre_pool_input_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_pool_input_finite.lean ====
abbrev S8x4096x1024 : Shape := ⟨3, ![8, 4096, 1024]⟩
abbrev S8x4x4096x128 : Shape := ⟨4, ![8, 4, 4096, 128]⟩
abbrev S8x4096x512 : Shape := ⟨3, ![8, 4096, 512]⟩
abbrev S8x6x1024 : Shape := ⟨3, ![8, 6, 1024]⟩
abbrev S512 : Shape := ⟨1, ![512]⟩
abbrev S1024 : Shape := ⟨1, ![1024]⟩
abbrev S1024x1024 : Shape := ⟨2, ![1024, 1024]⟩
abbrev S512x1024 : Shape := ⟨2, ![512, 1024]⟩
abbrev S1024x4096 : Shape := ⟨2, ![1024, 4096]⟩
abbrev S4096x1024 : Shape := ⟨2, ![4096, 1024]⟩
abbrev S_ : Shape := ⟨0, ![]⟩

class Facts : Prop where
  bitsLt_bf16_f32 : FTy.bits .bf16 < FTy.bits .f32
  bcast_S_S8x4096x512 : S_.BroadcastsInDim S8x4096x512 (![] : Fin 0 → Fin S8x4096x512.rank)

variable [Facts]

def fn {F : FTy → Type} [FloatOps F] (main_arg0 : FVec F S8x4096x1024 .f32) (main_arg1 : FVec F S8x4x4096x128 .bf16) (main_arg2 : FVec F S8x4096x512 .bf16) (main_arg3 : FVec F S8x4096x512 .bf16) (main_arg4 : FVec F S8x6x1024 .f32) (main_arg5 : FVec F S512 .f32) (main_arg6 : FVec F S1024 .f32) (main_arg7 : FVec F S1024 .f32) (main_arg8 : FVec F S1024x1024 .bf16) (main_arg9 : FVec F S512x1024 .bf16) (main_arg10 : FVec F S1024x4096 .bf16) (main_arg11 : FVec F S4096x1024 .bf16) : IVec S8x4096x512 1 :=
  let main_v0 : FVec F S8x4096x512 .f32 := (extf .f32 · bitsLt_bf16_f32) main_arg3
  let main_v1 : FVec F S8x4096x512 .f32 := Host.absf main_v0
  let main_cst : FVec F S_ .f32 := constant S_ .f32 0x7F800000#32
  let main_v2 : FVec F S8x4096x512 .f32 := broadcastInDim S8x4096x512 ![] bcast_S_S8x4096x512 main_cst
  let main_v3 : IVec S8x4096x512 1 := cmpf .olt main_v1 main_v2
  main_v3
-- ==== Kernel.lean ====
abbrev S8x4096x1024 : Shape := ⟨3, ![8, 4096, 1024]⟩
abbrev S8x4x4096x128 : Shape := ⟨4, ![8, 4, 4096, 128]⟩
abbrev S8x4096x512 : Shape := ⟨3, ![8, 4096, 512]⟩
abbrev S8x6x1024 : Shape := ⟨3, ![8, 6, 1024]⟩
abbrev S512 : Shape := ⟨1, ![512]⟩
abbrev S1024 : Shape := ⟨1, ![1024]⟩
abbrev S1024x1024 : Shape := ⟨2, ![1024, 1024]⟩
abbrev S512x1024 : Shape := ⟨2, ![512, 1024]⟩
abbrev S1024x4096 : Shape := ⟨2, ![1024, 4096]⟩
abbrev S4096x1024 : Shape := ⟨2, ![4096, 1024]⟩
abbrev S4x128x160 : Shape := ⟨3, ![4, 128, 160]⟩
abbrev S1x512 : Shape := ⟨2, ![1, 512]⟩
abbrev S1x1024 : Shape := ⟨2, ![1, 1024]⟩
abbrev S1x512x1024 : Shape := ⟨3, ![1, 512, 1024]⟩
abbrev S1x4x512x128 : Shape := ⟨4, ![1, 4, 512, 128]⟩
abbrev S1x512x512 : Shape := ⟨3, ![1, 512, 512]⟩
abbrev S1x16x512 : Shape := ⟨3, ![1, 16, 512]⟩
abbrev S1x6x1024 : Shape := ⟨3, ![1, 6, 1024]⟩
abbrev S544x512 : Shape := ⟨2, ![544, 512]⟩
abbrev S1x1x512x128 : Shape := ⟨4, ![1, 1, 512, 128]⟩
abbrev S512x128 : Shape := ⟨2, ![512, 128]⟩
abbrev S512x1 : Shape := ⟨2, ![512, 1]⟩
abbrev S1x128 : Shape := ⟨2, ![1, 128]⟩
abbrev S1x512x128 : Shape := ⟨3, ![1, 512, 128]⟩
abbrev S16x512 : Shape := ⟨2, ![16, 512]⟩
abbrev S512x512 : Shape := ⟨2, ![512, 512]⟩
abbrev S160x128 : Shape := ⟨2, ![160, 128]⟩
abbrev S160x512 : Shape := ⟨2, ![160, 512]⟩
abbrev S1x128x160 : Shape := ⟨3, ![1, 128, 160]⟩
abbrev S128x160 : Shape := ⟨2, ![128, 160]⟩
abbrev S128x512 : Shape := ⟨2, ![128, 512]⟩
abbrev S128x128 : Shape := ⟨2, ![128, 128]⟩
abbrev S48x512 : Shape := ⟨2, ![48, 512]⟩
abbrev S16x128 : Shape := ⟨2, ![16, 128]⟩
abbrev S48x128 : Shape := ⟨2, ![48, 128]⟩
abbrev S1x1x1024 : Shape := ⟨3, ![1, 1, 1024]⟩

abbrev nBuf : Space → Nat
  | .hbm => 17
  | .vmem => 26
  | .smem => 0
  | _ => 0

abbrev bufTy : (tb : Table) → Fin (tcTables nBuf tb) → BufTy
  | .hbm, ⟨0, _⟩ => ⟨S8x4096x1024, .f32⟩
  | .hbm, ⟨1, _⟩ => ⟨S8x4x4096x128, .bf16⟩
  | .hbm, ⟨2, _⟩ => ⟨S8x4096x512, .bf16⟩
  | .hbm, ⟨3, _⟩ => ⟨S8x4096x512, .bf16⟩
  | .hbm, ⟨4, _⟩ => ⟨S8x6x1024, .f32⟩
  | .hbm, ⟨5, _⟩ => ⟨S512, .f32⟩
  | .hbm, ⟨6, _⟩ => ⟨S1024, .f32⟩
  | .hbm, ⟨7, _⟩ => ⟨S1024, .f32⟩
  | .hbm, ⟨8, _⟩ => ⟨S1024x1024, .bf16⟩
  | .hbm, ⟨9, _⟩ => ⟨S512x1024, .bf16⟩
  | .hbm, ⟨10, _⟩ => ⟨S1024x4096, .bf16⟩
  | .hbm, ⟨11, _⟩ => ⟨S4096x1024, .bf16⟩
  | .hbm, ⟨12, _⟩ => ⟨S4x128x160, .bf16⟩
  | .hbm, ⟨13, _⟩ => ⟨S1x512, .f32⟩
  | .hbm, ⟨14, _⟩ => ⟨S1x1024, .f32⟩
  | .hbm, ⟨15, _⟩ => ⟨S1x1024, .f32⟩
  | .hbm, ⟨16, _⟩ => ⟨S8x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x4x512x128, .bf16⟩
  | .local _ .vmem, ⟨3, _⟩ => ⟨S1x4x512x128, .bf16⟩
  | .local _ .vmem, ⟨4, _⟩ => ⟨S1x512x512, .bf16⟩
  | .local _ .vmem, ⟨5, _⟩ => ⟨S1x512x512, .bf16⟩
  | .local _ .vmem, ⟨6, _⟩ => ⟨S1x512x512, .bf16⟩
  | .local _ .vmem, ⟨7, _⟩ => ⟨S1x512x512, .bf16⟩
  | .local _ .vmem, ⟨8, _⟩ => ⟨S1x16x512, .bf16⟩
  | .local _ .vmem, ⟨9, _⟩ => ⟨S1x16x512, .bf16⟩
  | .local _ .vmem, ⟨10, _⟩ => ⟨S1x16x512, .bf16⟩
  | .local _ .vmem, ⟨11, _⟩ => ⟨S1x16x512, .bf16⟩
  | .local _ .vmem, ⟨12, _⟩ => ⟨S1x6x1024, .f32⟩
  | .local _ .vmem, ⟨13, _⟩ => ⟨S1x6x1024, .f32⟩
  | .local _ .vmem, ⟨14, _⟩ => ⟨S1x512, .f32⟩
  | .local _ .vmem, ⟨15, _⟩ => ⟨S1x1024, .f32⟩
  | .local _ .vmem, ⟨16, _⟩ => ⟨S1x1024, .f32⟩
  | .local _ .vmem, ⟨17, _⟩ => ⟨S4x128x160, .bf16⟩
  | .local _ .vmem, ⟨18, _⟩ => ⟨S1024x1024, .bf16⟩
  | .local _ .vmem, ⟨19, _⟩ => ⟨S512x1024, .bf16⟩
  | .local _ .vmem, ⟨20, _⟩ => ⟨S1024x4096, .bf16⟩
  | .local _ .vmem, ⟨21, _⟩ => ⟨S4096x1024, .bf16⟩
  | .local _ .vmem, ⟨22, _⟩ => ⟨S1x512x1024, .f32⟩
  | .local _ .vmem, ⟨23, _⟩ => ⟨S1x512x1024, .f32⟩
  | .local _ .vmem, ⟨24, _⟩ => ⟨S544x512, .bf16⟩
  | .local _ .vmem, ⟨25, _⟩ => ⟨S512x1024, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg15_1 : Ref sig .tc := ⟨.vmem, 23, rfl⟩
abbrev cc0_scratch0 : Ref sig .tc := ⟨.vmem, 24, rfl⟩
abbrev cc0_scratch1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem15_0 : DmaSem sig := 22
abbrev cc0_sem15_1 : DmaSem sig := 23

abbrev nD : Nat := 1
abbrev τ : Topo := Topo.v7x

variable {F : FTy → Type} [FloatOps F]

abbrev grid0 : Pipeline.Grid := ⟨1, ![65], ![false]⟩

def k0_cond4 (i : grid0.Coords) : BitVec 1 :=
  let arg0 : BitVec 32 := BitVec.ofNat 32 (i 0).val
  let c0_i32_5 : BitVec 32 := 0#32
  let v13 : BitVec 1 := Scalar.cmpi .sgt arg0 c0_i32_5
  let v14 : BitVec 32 := Scalar.extui v13
  let c0_i32_6 : BitVec 32 := 0#32
  let v15 : BitVec 1 := Scalar.cmpi .ne v14 c0_i32_6
  v15

def cc0_transform_0 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c8_i32 : BitVec 32 := 8#32
  let v2 : BitVec 32 := Scalar.divsi v1 c8_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c8_i32_6 : BitVec 32 := 8#32
  let c0_i32_7 : BitVec 32 := 0#32
  let v19 : BitVec 1 := Scalar.cmpi .eq c8_i32_6 c0_i32_7
  let c1_i32_8 : BitVec 32 := 1#32
  let v20 : BitVec 32 := Scalar.select v19 c1_i32_8 c8_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let c0_i32_13 : BitVec 32 := 0#32
  ![v18.toNat, v28.toNat, c0_i32_12.toNat]

def cc0_transform_1 (i : grid0.Coords) : Fin 4 → Nat :=
  let arg0 : BitVec 32 := BitVec.ofNat 32 (i 0).val
  let c63_i32 : BitVec 32 := 63#32
  let v0 : BitVec 32 := Scalar.minsi arg0 c63_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c8_i32_4 : BitVec 32 := 8#32
  let c0_i32_5 : BitVec 32 := 0#32
  let v18 : BitVec 1 := Scalar.cmpi .eq c8_i32_4 c0_i32_5
  let c1_i32_6 : BitVec 32 := 1#32
  let v19 : BitVec 32 := Scalar.select v18 c1_i32_6 c8_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  let c0_i32_12 : BitVec 32 := 0#32
  ![v17.toNat, c0_i32_10.toNat, v27.toNat, c0_i32_11.toNat]

def cc0_transform_2 (i : grid0.Coords) : Fin 3 → Nat :=
  let arg0 : BitVec 32 := BitVec.ofNat 32 (i 0).val
  let c63_i32 : BitVec 32 := 63#32
  let v0 : BitVec 32 := Scalar.minsi arg0 c63_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c8_i32_4 : BitVec 32 := 8#32
  let c0_i32_5 : BitVec 32 := 0#32
  let v18 : BitVec 1 := Scalar.cmpi .eq c8_i32_4 c0_i32_5
  let c1_i32_6 : BitVec 32 := 1#32
  let v19 : BitVec 32 := Scalar.select v18 c1_i32_6 c8_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  ![v17.toNat, v27.toNat, c0_i32_10.toNat]

def cc0_transform_3 (i : grid0.Coords) : Fin 3 → Nat :=
  let arg0 : BitVec 32 := BitVec.ofNat 32 (i 0).val
  let c63_i32 : BitVec 32 := 63#32
  let v0 : BitVec 32 := Scalar.minsi arg0 c63_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c8_i32_4 : BitVec 32 := 8#32
  let c0_i32_5 : BitVec 32 := 0#32
  let v18 : BitVec 1 := Scalar.cmpi .eq c8_i32_4 c0_i32_5
  let c1_i32_6 : BitVec 32 := 1#32
  let v19 : BitVec 32 := Scalar.select v18 c1_i32_6 c8_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  ![v17.toNat, v27.toNat, c0_i32_10.toNat]

def cc0_transform_4 (i : grid0.Coords) : Fin 3 → Nat :=
  let arg0 : BitVec 32 := BitVec.ofNat 32 (i 0).val
  let c63_i32 : BitVec 32 := 63#32
  let v0 : BitVec 32 := Scalar.minsi arg0 c63_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c8_i32_4 : BitVec 32 := 8#32
  let c0_i32_5 : BitVec 32 := 0#32
  let v18 : BitVec 1 := Scalar.cmpi .eq c8_i32_4 c0_i32_5
  let c1_i32_6 : BitVec 32 := 1#32
  let v19 : BitVec 32 := Scalar.select v18 c1_i32_6 c8_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c32_i32 : BitVec 32 := 32#32
  let v28 : BitVec 32 := Scalar.muli v27 c32_i32
  let c1_i32_10 : BitVec 32 := 1#32
  let v29 : BitVec 32 := Scalar.subi v28 c1_i32_10
  let c0_i32_11 : BitVec 32 := 0#32
  let v30 : BitVec 32 := Scalar.maxsi v29 c0_i32_11
  let c0_i32_12 : BitVec 32 := 0#32
  let c0_i32_13 : BitVec 32 := 0#32
  ![v17.toNat, v30.toNat, c0_i32_12.toNat]

def cc0_transform_5 (i : grid0.Coords) : Fin 3 → Nat :=
  let arg0 : BitVec 32 := BitVec.ofNat 32 (i 0).val
  let c63_i32 : BitVec 32 := 63#32
  let v0 : BitVec 32 := Scalar.minsi arg0 c63_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c8_i32_4 : BitVec 32 := 8#32
  let c0_i32_5 : BitVec 32 := 0#32
  let v18 : BitVec 1 := Scalar.cmpi .eq c8_i32_4 c0_i32_5
  let c1_i32_6 : BitVec 32 := 1#32
  let v19 : BitVec 32 := Scalar.select v18 c1_i32_6 c8_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c1_i32_10 : BitVec 32 := 1#32
  let v28 : BitVec 32 := Scalar.addi v27 c1_i32_10
  let c32_i32 : BitVec 32 := 32#32
  let v29 : BitVec 32 := Scalar.muli v28 c32_i32
  let c255_i32 : BitVec 32 := 255#32
  let v30 : BitVec 32 := Scalar.minsi v29 c255_i32
  let c0_i32_11 : BitVec 32 := 0#32
  let c0_i32_12 : BitVec 32 := 0#32
  ![v17.toNat, v30.toNat, c0_i32_11.toNat]

def cc0_transform_6 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c8_i32 : BitVec 32 := 8#32
  let v2 : BitVec 32 := Scalar.divsi v1 c8_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c8_i32_6 : BitVec 32 := 8#32
  let c0_i32_7 : BitVec 32 := 0#32
  let v19 : BitVec 1 := Scalar.cmpi .eq c8_i32_6 c0_i32_7
  let c1_i32_8 : BitVec 32 := 1#32
  let v20 : BitVec 32 := Scalar.select v19 c1_i32_8 c8_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let c0_i32_13 : BitVec 32 := 0#32
  let c0_i32_14 : BitVec 32 := 0#32
  ![v18.toNat, c0_i32_12.toNat, c0_i32_13.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c8_i32 : BitVec 32 := 8#32
  let v2 : BitVec 32 := Scalar.divsi v1 c8_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c8_i32_6 : BitVec 32 := 8#32
  let c0_i32_7 : BitVec 32 := 0#32
  let v19 : BitVec 1 := Scalar.cmpi .eq c8_i32_6 c0_i32_7
  let c1_i32_8 : BitVec 32 := 1#32
  let v20 : BitVec 32 := Scalar.select v19 c1_i32_8 c8_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let c0_i32_13 : BitVec 32 := 0#32
  ![v18.toNat, v28.toNat, c0_i32_12.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x16x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x16x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x6x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x128x160 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x4096 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S4096x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S1x512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== ReferenceIdeal.lean ====
abbrev S8x4096x1024 : Shape := ⟨3, ![8, 4096, 1024]⟩
abbrev S8x4x4096x128 : Shape := ⟨4, ![8, 4, 4096, 128]⟩
abbrev S8x4096x512 : Shape := ⟨3, ![8, 4096, 512]⟩
abbrev S8x6x1024 : Shape := ⟨3, ![8, 6, 1024]⟩
abbrev S512 : Shape := ⟨1, ![512]⟩
abbrev S1024 : Shape := ⟨1, ![1024]⟩
abbrev S1024x1024 : Shape := ⟨2, ![1024, 1024]⟩
abbrev S512x1024 : Shape := ⟨2, ![512, 1024]⟩
abbrev S1024x4096 : Shape := ⟨2, ![1024, 4096]⟩
abbrev S4096x1024 : Shape := ⟨2, ![4096, 1024]⟩
abbrev S8x1x1024 : Shape := ⟨3, ![8, 1, 1024]⟩
abbrev S8x1024 : Shape := ⟨2, ![8, 1024]⟩
abbrev S_ : Shape := ⟨0, ![]⟩
abbrev S8x4x4096 : Shape := ⟨3, ![8, 4, 4096]⟩
abbrev S8x4x4096x1 : Shape := ⟨4, ![8, 4, 4096, 1]⟩
abbrev S4x1x128 : Shape := ⟨3, ![4, 1, 128]⟩
abbrev S1x4x1x128 : Shape := ⟨4, ![1, 4, 1, 128]⟩
abbrev S8x4096x4x128 : Shape := ⟨4, ![8, 4096, 4, 128]⟩
abbrev S8x1x4x128 : Shape := ⟨4, ![8, 1, 4, 128]⟩
abbrev S8x4097x4x128 : Shape := ⟨4, ![8, 4097, 4, 128]⟩
abbrev S4096 : Shape := ⟨1, ![4096]⟩
abbrev S8x4097x1x128 : Shape := ⟨4, ![8, 4097, 1, 128]⟩
abbrev S8x4097x128 : Shape := ⟨3, ![8, 4097, 128]⟩
abbrev S4096x1 : Shape := ⟨2, ![4096, 1]⟩
abbrev S8x4096x128 : Shape := ⟨3, ![8, 4096, 128]⟩
abbrev S1x4096x1 : Shape := ⟨3, ![1, 4096, 1]⟩
abbrev S8x4096x1x128 : Shape := ⟨4, ![8, 4096, 1, 128]⟩
abbrev S8x4096 : Shape := ⟨2, ![8, 4096]⟩
abbrev S8x4096x1 : Shape := ⟨3, ![8, 4096, 1]⟩
abbrev S1x1x1024 : Shape := ⟨3, ![1, 1, 1024]⟩
abbrev S8x4096x4096 : Shape := ⟨3, ![8, 4096, 4096]⟩

abbrev nBuf : Space → Nat
  | .hbm => 322
  | .vmem => 0
  | .smem => 0
  | _ => 0

abbrev hbmTy0_0 (i : Nat) : BufTy := match i % 128 with
  | 0 => ⟨S8x4096x1024, .f32⟩
  | 1 => ⟨S8x4x4096x128, .bf16⟩
  | 2 => ⟨S8x4096x512, .bf16⟩
  | 3 => ⟨S8x4096x512, .bf16⟩
  | 4 => ⟨S8x6x1024, .f32⟩
  | 5 => ⟨S512, .f32⟩
  | 6 => ⟨S1024, .f32⟩
  | 7 => ⟨S1024, .f32⟩
  | 8 => ⟨S1024x1024, .bf16⟩
  | 9 => ⟨S512x1024, .bf16⟩
  | 10 => ⟨S1024x4096, .bf16⟩
  | 11 => ⟨S4096x1024, .bf16⟩
  | 12 => ⟨S8x1x1024, .f32⟩
  | 13 => ⟨S8x1024, .f32⟩
  | 14 => ⟨S8x1x1024, .f32⟩
  | 15 => ⟨S8x1024, .f32⟩
  | 16 => ⟨S8x1x1024, .f32⟩
  | 17 => ⟨S8x1024, .f32⟩
  | 18 => ⟨S8x1x1024, .f32⟩
  | 19 => ⟨S8x1024, .f32⟩
  | 20 => ⟨S8x4x4096x128, .f32⟩
  | 21 => ⟨S8x4x4096x128, .f32⟩
  | 22 => ⟨S_, .f32⟩
  | 23 => ⟨S8x4x4096, .f32⟩
  | 24 => ⟨S8x4x4096x1, .f32⟩
  | 25 => ⟨S_, .f32⟩
  | 26 => ⟨S8x4x4096x1, .f32⟩
  | 27 => ⟨S8x4x4096x1, .f32⟩
  | 28 => ⟨S_, .f32⟩
  | 29 => ⟨S8x4x4096x1, .f32⟩
  | 30 => ⟨S8x4x4096x1, .f32⟩
  | 31 => ⟨S8x4x4096x1, .f32⟩
  | 32 => ⟨S8x4x4096x128, .f32⟩
  | 33 => ⟨S8x4x4096x128, .f32⟩
  | 34 => ⟨S4x1x128, .f32⟩
  | 35 => ⟨S1x4x1x128, .f32⟩
  | 36 => ⟨S8x4x4096x128, .f32⟩
  | 37 => ⟨S8x4x4096x128, .f32⟩
  | 38 => ⟨S8x4096x4x128, .f32⟩
  | 39 => ⟨S8x4096x512, .f32⟩
  | 40 => ⟨S8x4096x512, .f32⟩
  | 41 => ⟨S8x4096x512, .f32⟩
  | 42 => ⟨S8x4096x512, .f32⟩
  | 43 => ⟨S_, .f32⟩
  | 44 => ⟨S8x4096x512, .f32⟩
  | 45 => ⟨S8x4096x512, .f32⟩
  | 46 => ⟨S_, .f32⟩
  | 47 => ⟨S8x4096x512, .f32⟩
  | 48 => ⟨S8x4096x512, .f32⟩
  | 49 => ⟨S8x4096x512, .f32⟩
  | 50 => ⟨S8x4096x512, .f32⟩
  | 51 => ⟨S8x4096x4x128, .f32⟩
  | 52 => ⟨S8x1x4x128, .f32⟩
  | 53 => ⟨S_, .f32⟩
  | 54 => ⟨S8x1x4x128, .f32⟩
  | 55 => ⟨S_, .f32⟩
  | 56 => ⟨S_, .f32⟩
  | 57 => ⟨S8x4096x4x128, .f32⟩
  | 58 => ⟨S8x4097x4x128, .f32⟩
  | 59 => ⟨S4096, .i32⟩
  | 60 => ⟨S_, .i32⟩
  | 61 => ⟨S4096, .i32⟩
  | 62 => ⟨S4096, .i32⟩
  | 63 => ⟨S_, .i32⟩
  | 64 => ⟨S_, .i32⟩
  | 65 => ⟨S_, .i32⟩
  | 66 => ⟨S4096, .i32⟩
  | 67 => ⟨S4096, .i32⟩
  | 68 => ⟨S_, .i32⟩
  | 69 => ⟨S4096, .i32⟩
  | 70 => ⟨S4096, .i32⟩
  | 71 => ⟨S_, .i32⟩
  | 72 => ⟨S4096, .i32⟩
  | 73 => ⟨S4096, .i32⟩
  | 74 => ⟨S_, .i32⟩
  | 75 => ⟨S_, .i32⟩
  | 76 => ⟨S_, .i32⟩
  | 77 => ⟨S4096, .i32⟩
  | 78 => ⟨S4096, .i32⟩
  | 79 => ⟨S_, .i32⟩
  | 80 => ⟨S4096, .i32⟩
  | 81 => ⟨S4096, .i32⟩
  | 82 => ⟨S8x4097x1x128, .f32⟩
  | 83 => ⟨S8x4097x128, .f32⟩
  | 84 => ⟨S4096, .i32⟩
  | 85 => ⟨S4096, .f32⟩
  | 86 => ⟨S_, .i32⟩
  | 87 => ⟨S4096, .i32⟩
  | 88 => ⟨S4096, .i1⟩
  | 89 => ⟨S_, .i32⟩
  | 90 => ⟨S4096, .i32⟩
  | 91 => ⟨S4096, .i32⟩
  | 92 => ⟨S4096, .i32⟩
  | 93 => ⟨S4096x1, .i32⟩
  | 94 => ⟨S8x4096x128, .f32⟩
  | 95 => ⟨S_, .i32⟩
  | 96 => ⟨S4096, .i32⟩
  | 97 => ⟨S4096, .i1⟩
  | 98 => ⟨S_, .i32⟩
  | 99 => ⟨S4096, .i32⟩
  | 100 => ⟨S4096, .i32⟩
  | 101 => ⟨S4096, .i32⟩
  | 102 => ⟨S4096x1, .i32⟩
  | 103 => ⟨S8x4096x128, .f32⟩
  | 104 => ⟨S8x4096x128, .f32⟩
  | 105 => ⟨S1x4096x1, .f32⟩
  | 106 => ⟨S8x4096x128, .f32⟩
  | 107 => ⟨S8x4096x128, .f32⟩
  | 108 => ⟨S_, .i32⟩
  | 109 => ⟨S4096, .i32⟩
  | 110 => ⟨S4096, .i32⟩
  | 111 => ⟨S_, .i32⟩
  | 112 => ⟨S_, .i32⟩
  | 113 => ⟨S_, .i32⟩
  | 114 => ⟨S4096, .i32⟩
  | 115 => ⟨S4096, .i32⟩
  | 116 => ⟨S_, .i32⟩
  | 117 => ⟨S4096, .i32⟩
  | 118 => ⟨S4096, .i32⟩
  | 119 => ⟨S_, .i32⟩
  | 120 => ⟨S4096, .i32⟩
  | 121 => ⟨S4096, .i32⟩
  | 122 => ⟨S_, .i32⟩
  | 123 => ⟨S_, .i32⟩
  | 124 => ⟨S_, .i32⟩
  | 125 => ⟨S4096, .i32⟩
  | 126 => ⟨S4096, .i32⟩
  | 127 => ⟨S_, .i32⟩
  | _ => ⟨S8x4096x1024, .f32⟩

abbrev hbmTy0_1 (i : Nat) : BufTy := match i % 128 with
  | 0 => ⟨S4096, .i32⟩
  | 1 => ⟨S4096, .i32⟩
  | 2 => ⟨S8x4097x1x128, .f32⟩
  | 3 => ⟨S8x4097x128, .f32⟩
  | 4 => ⟨S4096, .i32⟩
  | 5 => ⟨S4096, .f32⟩
  | 6 => ⟨S_, .i32⟩
  | 7 => ⟨S4096, .i32⟩
  | 8 => ⟨S4096, .i1⟩
  | 9 => ⟨S_, .i32⟩
  | 10 => ⟨S4096, .i32⟩
  | 11 => ⟨S4096, .i32⟩
  | 12 => ⟨S4096, .i32⟩
  | 13 => ⟨S4096x1, .i32⟩
  | 14 => ⟨S8x4096x128, .f32⟩
  | 15 => ⟨S_, .i32⟩
  | 16 => ⟨S4096, .i32⟩
  | 17 => ⟨S4096, .i1⟩
  | 18 => ⟨S_, .i32⟩
  | 19 => ⟨S4096, .i32⟩
  | 20 => ⟨S4096, .i32⟩
  | 21 => ⟨S4096, .i32⟩
  | 22 => ⟨S4096x1, .i32⟩
  | 23 => ⟨S8x4096x128, .f32⟩
  | 24 => ⟨S8x4096x128, .f32⟩
  | 25 => ⟨S1x4096x1, .f32⟩
  | 26 => ⟨S8x4096x128, .f32⟩
  | 27 => ⟨S8x4096x128, .f32⟩
  | 28 => ⟨S_, .i32⟩
  | 29 => ⟨S4096, .i32⟩
  | 30 => ⟨S4096, .i32⟩
  | 31 => ⟨S_, .i32⟩
  | 32 => ⟨S_, .i32⟩
  | 33 => ⟨S_, .i32⟩
  | 34 => ⟨S4096, .i32⟩
  | 35 => ⟨S4096, .i32⟩
  | 36 => ⟨S_, .i32⟩
  | 37 => ⟨S4096, .i32⟩
  | 38 => ⟨S4096, .i32⟩
  | 39 => ⟨S_, .i32⟩
  | 40 => ⟨S4096, .i32⟩
  | 41 => ⟨S4096, .i32⟩
  | 42 => ⟨S_, .i32⟩
  | 43 => ⟨S_, .i32⟩
  | 44 => ⟨S_, .i32⟩
  | 45 => ⟨S4096, .i32⟩
  | 46 => ⟨S4096, .i32⟩
  | 47 => ⟨S_, .i32⟩
  | 48 => ⟨S4096, .i32⟩
  | 49 => ⟨S4096, .i32⟩
  | 50 => ⟨S8x4097x1x128, .f32⟩
  | 51 => ⟨S8x4097x128, .f32⟩
  | 52 => ⟨S4096, .i32⟩
  | 53 => ⟨S4096, .f32⟩
  | 54 => ⟨S_, .i32⟩
  | 55 => ⟨S4096, .i32⟩
  | 56 => ⟨S4096, .i1⟩
  | 57 => ⟨S_, .i32⟩
  | 58 => ⟨S4096, .i32⟩
  | 59 => ⟨S4096, .i32⟩
  | 60 => ⟨S4096, .i32⟩
  | 61 => ⟨S4096x1, .i32⟩
  | 62 => ⟨S8x4096x128, .f32⟩
  | 63 => ⟨S_, .i32⟩
  | 64 => ⟨S4096, .i32⟩
  | 65 => ⟨S4096, .i1⟩
  | 66 => ⟨S_, .i32⟩
  | 67 => ⟨S4096, .i32⟩
  | 68 => ⟨S4096, .i32⟩
  | 69 => ⟨S4096, .i32⟩
  | 70 => ⟨S4096x1, .i32⟩
  | 71 => ⟨S8x4096x128, .f32⟩
  | 72 => ⟨S8x4096x128, .f32⟩
  | 73 => ⟨S1x4096x1, .f32⟩
  | 74 => ⟨S8x4096x128, .f32⟩
  | 75 => ⟨S8x4096x128, .f32⟩
  | 76 => ⟨S_, .i32⟩
  | 77 => ⟨S4096, .i32⟩
  | 78 => ⟨S4096, .i32⟩
  | 79 => ⟨S_, .i32⟩
  | 80 => ⟨S_, .i32⟩
  | 81 => ⟨S_, .i32⟩
  | 82 => ⟨S4096, .i32⟩
  | 83 => ⟨S4096, .i32⟩
  | 84 => ⟨S_, .i32⟩
  | 85 => ⟨S4096, .i32⟩
  | 86 => ⟨S4096, .i32⟩
  | 87 => ⟨S_, .i32⟩
  | 88 => ⟨S4096, .i32⟩
  | 89 => ⟨S4096, .i32⟩
  | 90 => ⟨S_, .i32⟩
  | 91 => ⟨S_, .i32⟩
  | 92 => ⟨S_, .i32⟩
  | 93 => ⟨S4096, .i32⟩
  | 94 => ⟨S4096, .i32⟩
  | 95 => ⟨S_, .i32⟩
  | 96 => ⟨S4096, .i32⟩
  | 97 => ⟨S4096, .i32⟩
  | 98 => ⟨S8x4097x1x128, .f32⟩
  | 99 => ⟨S8x4097x128, .f32⟩
  | 100 => ⟨S4096, .i32⟩
  | 101 => ⟨S4096, .f32⟩
  | 102 => ⟨S_, .i32⟩
  | 103 => ⟨S4096, .i32⟩
  | 104 => ⟨S4096, .i1⟩
  | 105 => ⟨S_, .i32⟩
  | 106 => ⟨S4096, .i32⟩
  | 107 => ⟨S4096, .i32⟩
  | 108 => ⟨S4096, .i32⟩
  | 109 => ⟨S4096x1, .i32⟩
  | 110 => ⟨S8x4096x128, .f32⟩
  | 111 => ⟨S_, .i32⟩
  | 112 => ⟨S4096, .i32⟩
  | 113 => ⟨S4096, .i1⟩
  | 114 => ⟨S_, .i32⟩
  | 115 => ⟨S4096, .i32⟩
  | 116 => ⟨S4096, .i32⟩
  | 117 => ⟨S4096, .i32⟩
  | 118 => ⟨S4096x1, .i32⟩
  | 119 => ⟨S8x4096x128, .f32⟩
  | 120 => ⟨S8x4096x128, .f32⟩
  | 121 => ⟨S1x4096x1, .f32⟩
  | 122 => ⟨S8x4096x128, .f32⟩
  | 123 => ⟨S8x4096x128, .f32⟩
  | 124 => ⟨S8x4096x1x128, .f32⟩
  | 125 => ⟨S8x4096x1x128, .f32⟩
  | 126 => ⟨S8x4096x1x128, .f32⟩
  | 127 => ⟨S8x4096x1x128, .f32⟩
  | _ => ⟨S8x4096x1024, .f32⟩

abbrev hbmTy0_2 (i : Nat) : BufTy := match i % 128 with
  | 0 => ⟨S8x4096x4x128, .f32⟩
  | 1 => ⟨S8x4096x4x128, .f32⟩
  | 2 => ⟨S8x4096x512, .f32⟩
  | 3 => ⟨S512x1024, .bf16⟩
  | 4 => ⟨S512x1024, .f32⟩
  | 5 => ⟨S8x4096x1024, .f32⟩
  | 6 => ⟨S512x1024, .f32⟩
  | 7 => ⟨S8x4096x1024, .f32⟩
  | 8 => ⟨S8x4096x1024, .f32⟩
  | 9 => ⟨S8x1x1024, .f32⟩
  | 10 => ⟨S8x4096x1024, .f32⟩
  | 11 => ⟨S8x4096x1024, .f32⟩
  | 12 => ⟨S8x4096x1024, .f32⟩
  | 13 => ⟨S8x4096x1024, .f32⟩
  | 14 => ⟨S_, .f32⟩
  | 15 => ⟨S8x4096, .f32⟩
  | 16 => ⟨S8x4096x1, .f32⟩
  | 17 => ⟨S_, .f32⟩
  | 18 => ⟨S8x4096x1, .f32⟩
  | 19 => ⟨S8x4096x1, .f32⟩
  | 20 => ⟨S_, .f32⟩
  | 21 => ⟨S8x4096x1, .f32⟩
  | 22 => ⟨S8x4096x1, .f32⟩
  | 23 => ⟨S8x4096x1, .f32⟩
  | 24 => ⟨S8x4096x1024, .f32⟩
  | 25 => ⟨S8x4096x1024, .f32⟩
  | 26 => ⟨S1x1x1024, .f32⟩
  | 27 => ⟨S8x4096x1024, .f32⟩
  | 28 => ⟨S8x4096x1024, .f32⟩
  | 29 => ⟨S8x1x1024, .f32⟩
  | 30 => ⟨S_, .f32⟩
  | 31 => ⟨S8x1x1024, .f32⟩
  | 32 => ⟨S8x1x1024, .f32⟩
  | 33 => ⟨S8x4096x1024, .f32⟩
  | 34 => ⟨S8x4096x1024, .f32⟩
  | 35 => ⟨S8x1x1024, .f32⟩
  | 36 => ⟨S8x4096x1024, .f32⟩
  | 37 => ⟨S8x4096x1024, .f32⟩
  | 38 => ⟨S1024x4096, .f32⟩
  | 39 => ⟨S8x4096x4096, .f32⟩
  | 40 => ⟨S_, .f32⟩
  | 41 => ⟨S8x4096x4096, .f32⟩
  | 42 => ⟨S8x4096x4096, .f32⟩
  | 43 => ⟨S8x4096x4096, .f32⟩
  | 44 => ⟨S8x1x1024, .f32⟩
  | 45 => ⟨S4096x1024, .f32⟩
  | 46 => ⟨S8x4096x1024, .f32⟩
  | 47 => ⟨S8x4096x1024, .f32⟩
  | 48 => ⟨S8x4096x1024, .f32⟩
  | 49 => ⟨S8x4096x1024, .f32⟩
  | 50 => ⟨S8x4096x1024, .f32⟩
  | 51 => ⟨S_, .f32⟩
  | 52 => ⟨S8x4096, .f32⟩
  | 53 => ⟨S8x4096x1, .f32⟩
  | 54 => ⟨S_, .f32⟩
  | 55 => ⟨S8x4096x1, .f32⟩
  | 56 => ⟨S8x4096x1, .f32⟩
  | 57 => ⟨S_, .f32⟩
  | 58 => ⟨S8x4096x1, .f32⟩
  | 59 => ⟨S8x4096x1, .f32⟩
  | 60 => ⟨S8x4096x1, .f32⟩
  | 61 => ⟨S8x4096x1024, .f32⟩
  | 62 => ⟨S8x4096x1024, .f32⟩
  | 63 => ⟨S1x1x1024, .f32⟩
  | 64 => ⟨S8x4096x1024, .f32⟩
  | 65 => ⟨S8x4096x1024, .f32⟩
  | _ => ⟨S8x4096x1024, .f32⟩

abbrev hbmTy (i : Nat) : BufTy := match i / 128 with
  | 0 => hbmTy0_0 i
  | 1 => hbmTy0_1 i
  | 2 => hbmTy0_2 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst : Ref sig .tc := ⟨.hbm, 22, rfl⟩
abbrev main_v10 : Ref sig .tc := ⟨.hbm, 23, rfl⟩
abbrev main_v11 : Ref sig .tc := ⟨.hbm, 24, rfl⟩
abbrev main_cst_0 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_2 : Ref sig .tc := ⟨.hbm, 43, rfl⟩
abbrev main_v28 : Ref sig .tc := ⟨.hbm, 44, rfl⟩
abbrev main_v29 : Ref sig .tc := ⟨.hbm, 45, rfl⟩
abbrev main_cst_3 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_4 : Ref sig .tc := ⟨.hbm, 53, rfl⟩
abbrev main_v36 : Ref sig .tc := ⟨.hbm, 54, rfl⟩
abbrev main_call0_call0_cst : Ref sig .tc := ⟨.hbm, 55, rfl⟩
abbrev main_call0_call0_v0 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_c : Ref sig .tc := ⟨.hbm, 60, rfl⟩
abbrev main_v40 : Ref sig .tc := ⟨.hbm, 61, rfl⟩
abbrev main_v41 : Ref sig .tc := ⟨.hbm, 62, rfl⟩
abbrev main_c_5 : Ref sig .tc := ⟨.hbm, 63, rfl⟩
abbrev main_c_6 : Ref sig .tc := ⟨.hbm, 64, rfl⟩
abbrev main_call1_v0 : Ref sig .tc := ⟨.hbm, 65, rfl⟩
abbrev main_call1_v1 : Ref sig .tc := ⟨.hbm, 66, rfl⟩
abbrev main_call1_v2 : Ref sig .tc := ⟨.hbm, 67, rfl⟩
abbrev main_call1_v3 : Ref sig .tc := ⟨.hbm, 68, rfl⟩
abbrev main_call1_v4 : Ref sig .tc := ⟨.hbm, 69, rfl⟩
abbrev main_v42 : Ref sig .tc := ⟨.hbm, 70, rfl⟩
abbrev main_c_7 : Ref sig .tc := ⟨.hbm, 71, rfl⟩
abbrev main_v43 : Ref sig .tc := ⟨.hbm, 72, rfl⟩
abbrev main_v44 : Ref sig .tc := ⟨.hbm, 73, rfl⟩
abbrev main_c_8 : Ref sig .tc := ⟨.hbm, 74, rfl⟩
abbrev main_c_9 : Ref sig .tc := ⟨.hbm, 75, rfl⟩
abbrev main_call2_v0 : Ref sig .tc := ⟨.hbm, 76, rfl⟩
abbrev main_call2_v1 : Ref sig .tc := ⟨.hbm, 77, rfl⟩
abbrev main_call2_v2 : Ref sig .tc := ⟨.hbm, 78, rfl⟩
abbrev main_call2_v3 : Ref sig .tc := ⟨.hbm, 79, rfl⟩
abbrev main_call2_v4 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_c_10 : Ref sig .tc := ⟨.hbm, 86, rfl⟩
abbrev main_v50 : Ref sig .tc := ⟨.hbm, 87, rfl⟩
abbrev main_v51 : Ref sig .tc := ⟨.hbm, 88, rfl⟩
abbrev main_c_11 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_c_12 : Ref sig .tc := ⟨.hbm, 95, rfl⟩
abbrev main_v57 : Ref sig .tc := ⟨.hbm, 96, rfl⟩
abbrev main_v58 : Ref sig .tc := ⟨.hbm, 97, rfl⟩
abbrev main_c_13 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_c_14 : Ref sig .tc := ⟨.hbm, 108, rfl⟩
abbrev main_v68 : Ref sig .tc := ⟨.hbm, 109, rfl⟩
abbrev main_v69 : Ref sig .tc := ⟨.hbm, 110, rfl⟩
abbrev main_c_15 : Ref sig .tc := ⟨.hbm, 111, rfl⟩
abbrev main_c_16 : Ref sig .tc := ⟨.hbm, 112, rfl⟩
abbrev main_call3_v0 : Ref sig .tc := ⟨.hbm, 113, rfl⟩
abbrev main_call3_v1 : Ref sig .tc := ⟨.hbm, 114, rfl⟩
abbrev main_call3_v2 : Ref sig .tc := ⟨.hbm, 115, rfl⟩
abbrev main_call3_v3 : Ref sig .tc := ⟨.hbm, 116, rfl⟩
abbrev main_call3_v4 : Ref sig .tc := ⟨.hbm, 117, rfl⟩
abbrev main_v70 : Ref sig .tc := ⟨.hbm, 118, rfl⟩
abbrev main_c_17 : Ref sig .tc := ⟨.hbm, 119, rfl⟩
abbrev main_v71 : Ref sig .tc := ⟨.hbm, 120, rfl⟩
abbrev main_v72 : Ref sig .tc := ⟨.hbm, 121, rfl⟩
abbrev main_c_18 : Ref sig .tc := ⟨.hbm, 122, rfl⟩
abbrev main_c_19 : Ref sig .tc := ⟨.hbm, 123, rfl⟩
abbrev main_call4_v0 : Ref sig .tc := ⟨.hbm, 124, rfl⟩
abbrev main_call4_v1 : Ref sig .tc := ⟨.hbm, 125, rfl⟩
abbrev main_call4_v2 : Ref sig .tc := ⟨.hbm, 126, rfl⟩
abbrev main_call4_v3 : Ref sig .tc := ⟨.hbm, 127, rfl⟩
abbrev main_call4_v4 : Ref sig .tc := ⟨.hbm, 128, rfl⟩
abbrev main_v73 : Ref sig .tc := ⟨.hbm, 129, rfl⟩
abbrev main_v74 : Ref sig .tc := ⟨.hbm, 130, rfl⟩
abbrev main_v75 : Ref sig .tc := ⟨.hbm, 131, rfl⟩
abbrev main_v76 : Ref sig .tc := ⟨.hbm, 132, rfl⟩
abbrev main_v77 : Ref sig .tc := ⟨.hbm, 133, rfl⟩
abbrev main_c_20 : Ref sig .tc := ⟨.hbm, 134, rfl⟩
abbrev main_v78 : Ref sig .tc := ⟨.hbm, 135, rfl⟩
abbrev main_v79 : Ref sig .tc := ⟨.hbm, 136, rfl⟩
abbrev main_c_21 : Ref sig .tc := ⟨.hbm, 137, rfl⟩
abbrev main_v80 : Ref sig .tc := ⟨.hbm, 138, rfl⟩
abbrev main_v81 : Ref sig .tc := ⟨.hbm, 139, rfl⟩
abbrev main_v82 : Ref sig .tc := ⟨.hbm, 140, rfl⟩
abbrev main_v83 : Ref sig .tc := ⟨.hbm, 141, rfl⟩
abbrev main_v84 : Ref sig .tc := ⟨.hbm, 142, rfl⟩
abbrev main_c_22 : Ref sig .tc := ⟨.hbm, 143, rfl⟩
abbrev main_v85 : Ref sig .tc := ⟨.hbm, 144, rfl⟩
abbrev main_v86 : Ref sig .tc := ⟨.hbm, 145, rfl⟩
abbrev main_c_23 : Ref sig .tc := ⟨.hbm, 146, rfl⟩
abbrev main_v87 : Ref sig .tc := ⟨.hbm, 147, rfl⟩
abbrev main_v88 : Ref sig .tc := ⟨.hbm, 148, rfl⟩
abbrev main_v89 : Ref sig .tc := ⟨.hbm, 149, rfl⟩
abbrev main_v90 : Ref sig .tc := ⟨.hbm, 150, rfl⟩
abbrev main_v91 : Ref sig .tc := ⟨.hbm, 151, rfl⟩
abbrev main_v92 : Ref sig .tc := ⟨.hbm, 152, rfl⟩
abbrev main_v93 : Ref sig .tc := ⟨.hbm, 153, rfl⟩
abbrev main_v94 : Ref sig .tc := ⟨.hbm, 154, rfl⟩
abbrev main_v95 : Ref sig .tc := ⟨.hbm, 155, rfl⟩
abbrev main_c_24 : Ref sig .tc := ⟨.hbm, 156, rfl⟩
abbrev main_v96 : Ref sig .tc := ⟨.hbm, 157, rfl⟩
abbrev main_v97 : Ref sig .tc := ⟨.hbm, 158, rfl⟩
abbrev main_c_25 : Ref sig .tc := ⟨.hbm, 159, rfl⟩
abbrev main_c_26 : Ref sig .tc := ⟨.hbm, 160, rfl⟩
abbrev main_call5_v0 : Ref sig .tc := ⟨.hbm, 161, rfl⟩
abbrev main_call5_v1 : Ref sig .tc := ⟨.hbm, 162, rfl⟩
abbrev main_call5_v2 : Ref sig .tc := ⟨.hbm, 163, rfl⟩
abbrev main_call5_v3 : Ref sig .tc := ⟨.hbm, 164, rfl⟩
abbrev main_call5_v4 : Ref sig .tc := ⟨.hbm, 165, rfl⟩
abbrev main_v98 : Ref sig .tc := ⟨.hbm, 166, rfl⟩
abbrev main_c_27 : Ref sig .tc := ⟨.hbm, 167, rfl⟩
abbrev main_v99 : Ref sig .tc := ⟨.hbm, 168, rfl⟩
abbrev main_v100 : Ref sig .tc := ⟨.hbm, 169, rfl⟩
abbrev main_c_28 : Ref sig .tc := ⟨.hbm, 170, rfl⟩
abbrev main_c_29 : Ref sig .tc := ⟨.hbm, 171, rfl⟩
abbrev main_call6_v0 : Ref sig .tc := ⟨.hbm, 172, rfl⟩
abbrev main_call6_v1 : Ref sig .tc := ⟨.hbm, 173, rfl⟩
abbrev main_call6_v2 : Ref sig .tc := ⟨.hbm, 174, rfl⟩
abbrev main_call6_v3 : Ref sig .tc := ⟨.hbm, 175, rfl⟩
abbrev main_call6_v4 : Ref sig .tc := ⟨.hbm, 176, rfl⟩
abbrev main_v101 : Ref sig .tc := ⟨.hbm, 177, rfl⟩
abbrev main_v102 : Ref sig .tc := ⟨.hbm, 178, rfl⟩
abbrev main_v103 : Ref sig .tc := ⟨.hbm, 179, rfl⟩
abbrev main_v104 : Ref sig .tc := ⟨.hbm, 180, rfl⟩
abbrev main_v105 : Ref sig .tc := ⟨.hbm, 181, rfl⟩
abbrev main_c_30 : Ref sig .tc := ⟨.hbm, 182, rfl⟩
abbrev main_v106 : Ref sig .tc := ⟨.hbm, 183, rfl⟩
abbrev main_v107 : Ref sig .tc := ⟨.hbm, 184, rfl⟩
abbrev main_c_31 : Ref sig .tc := ⟨.hbm, 185, rfl⟩
abbrev main_v108 : Ref sig .tc := ⟨.hbm, 186, rfl⟩
abbrev main_v109 : Ref sig .tc := ⟨.hbm, 187, rfl⟩
abbrev main_v110 : Ref sig .tc := ⟨.hbm, 188, rfl⟩
abbrev main_v111 : Ref sig .tc := ⟨.hbm, 189, rfl⟩
abbrev main_v112 : Ref sig .tc := ⟨.hbm, 190, rfl⟩
abbrev main_c_32 : Ref sig .tc := ⟨.hbm, 191, rfl⟩
abbrev main_v113 : Ref sig .tc := ⟨.hbm, 192, rfl⟩
abbrev main_v114 : Ref sig .tc := ⟨.hbm, 193, rfl⟩
abbrev main_c_33 : Ref sig .tc := ⟨.hbm, 194, rfl⟩
abbrev main_v115 : Ref sig .tc := ⟨.hbm, 195, rfl⟩
abbrev main_v116 : Ref sig .tc := ⟨.hbm, 196, rfl⟩
abbrev main_v117 : Ref sig .tc := ⟨.hbm, 197, rfl⟩
abbrev main_v118 : Ref sig .tc := ⟨.hbm, 198, rfl⟩
abbrev main_v119 : Ref sig .tc := ⟨.hbm, 199, rfl⟩
abbrev main_v120 : Ref sig .tc := ⟨.hbm, 200, rfl⟩
abbrev main_v121 : Ref sig .tc := ⟨.hbm, 201, rfl⟩
abbrev main_v122 : Ref sig .tc := ⟨.hbm, 202, rfl⟩
abbrev main_v123 : Ref sig .tc := ⟨.hbm, 203, rfl⟩
abbrev main_c_34 : Ref sig .tc := ⟨.hbm, 204, rfl⟩
abbrev main_v124 : Ref sig .tc := ⟨.hbm, 205, rfl⟩
abbrev main_v125 : Ref sig .tc := ⟨.hbm, 206, rfl⟩
abbrev main_c_35 : Ref sig .tc := ⟨.hbm, 207, rfl⟩
abbrev main_c_36 : Ref sig .tc := ⟨.hbm, 208, rfl⟩
abbrev main_call7_v0 : Ref sig .tc := ⟨.hbm, 209, rfl⟩
abbrev main_call7_v1 : Ref sig .tc := ⟨.hbm, 210, rfl⟩
abbrev main_call7_v2 : Ref sig .tc := ⟨.hbm, 211, rfl⟩
abbrev main_call7_v3 : Ref sig .tc := ⟨.hbm, 212, rfl⟩
abbrev main_call7_v4 : Ref sig .tc := ⟨.hbm, 213, rfl⟩
abbrev main_v126 : Ref sig .tc := ⟨.hbm, 214, rfl⟩
abbrev main_c_37 : Ref sig .tc := ⟨.hbm, 215, rfl⟩
abbrev main_v127 : Ref sig .tc := ⟨.hbm, 216, rfl⟩
abbrev main_v128 : Ref sig .tc := ⟨.hbm, 217, rfl⟩
abbrev main_c_38 : Ref sig .tc := ⟨.hbm, 218, rfl⟩
abbrev main_c_39 : Ref sig .tc := ⟨.hbm, 219, rfl⟩
abbrev main_call8_v0 : Ref sig .tc := ⟨.hbm, 220, rfl⟩
abbrev main_call8_v1 : Ref sig .tc := ⟨.hbm, 221, rfl⟩
abbrev main_call8_v2 : Ref sig .tc := ⟨.hbm, 222, rfl⟩
abbrev main_call8_v3 : Ref sig .tc := ⟨.hbm, 223, rfl⟩
abbrev main_call8_v4 : Ref sig .tc := ⟨.hbm, 224, rfl⟩
abbrev main_v129 : Ref sig .tc := ⟨.hbm, 225, rfl⟩
abbrev main_v130 : Ref sig .tc := ⟨.hbm, 226, rfl⟩
abbrev main_v131 : Ref sig .tc := ⟨.hbm, 227, rfl⟩
abbrev main_v132 : Ref sig .tc := ⟨.hbm, 228, rfl⟩
abbrev main_v133 : Ref sig .tc := ⟨.hbm, 229, rfl⟩
abbrev main_c_40 : Ref sig .tc := ⟨.hbm, 230, rfl⟩
abbrev main_v134 : Ref sig .tc := ⟨.hbm, 231, rfl⟩
abbrev main_v135 : Ref sig .tc := ⟨.hbm, 232, rfl⟩
abbrev main_c_41 : Ref sig .tc := ⟨.hbm, 233, rfl⟩
abbrev main_v136 : Ref sig .tc := ⟨.hbm, 234, rfl⟩
abbrev main_v137 : Ref sig .tc := ⟨.hbm, 235, rfl⟩
abbrev main_v138 : Ref sig .tc := ⟨.hbm, 236, rfl⟩
abbrev main_v139 : Ref sig .tc := ⟨.hbm, 237, rfl⟩
abbrev main_v140 : Ref sig .tc := ⟨.hbm, 238, rfl⟩
abbrev main_c_42 : Ref sig .tc := ⟨.hbm, 239, rfl⟩
abbrev main_v141 : Ref sig .tc := ⟨.hbm, 240, rfl⟩
abbrev main_v142 : Ref sig .tc := ⟨.hbm, 241, rfl⟩
abbrev main_c_43 : Ref sig .tc := ⟨.hbm, 242, rfl⟩
abbrev main_v143 : Ref sig .tc := ⟨.hbm, 243, rfl⟩
abbrev main_v144 : Ref sig .tc := ⟨.hbm, 244, rfl⟩
abbrev main_v145 : Ref sig .tc := ⟨.hbm, 245, rfl⟩
abbrev main_v146 : Ref sig .tc := ⟨.hbm, 246, rfl⟩
abbrev main_v147 : Ref sig .tc := ⟨.hbm, 247, rfl⟩
abbrev main_v148 : Ref sig .tc := ⟨.hbm, 248, rfl⟩
abbrev main_v149 : Ref sig .tc := ⟨.hbm, 249, rfl⟩
abbrev main_v150 : Ref sig .tc := ⟨.hbm, 250, rfl⟩
abbrev main_v151 : Ref sig .tc := ⟨.hbm, 251, rfl⟩
abbrev main_v152 : Ref sig .tc := ⟨.hbm, 252, rfl⟩
abbrev main_v153 : Ref sig .tc := ⟨.hbm, 253, rfl⟩
abbrev main_v154 : Ref sig .tc := ⟨.hbm, 254, rfl⟩
abbrev main_v155 : Ref sig .tc := ⟨.hbm, 255, rfl⟩
abbrev main_v156 : Ref sig .tc := ⟨.hbm, 256, rfl⟩
abbrev main_v157 : Ref sig .tc := ⟨.hbm, 257, rfl⟩
abbrev main_v158 : Ref sig .tc := ⟨.hbm, 258, rfl⟩
abbrev main_v159 : Ref sig .tc := ⟨.hbm, 259, rfl⟩
abbrev main_v160 : Ref sig .tc := ⟨.hbm, 260, rfl⟩
abbrev main_v161 : Ref sig .tc := ⟨.hbm, 261, rfl⟩
abbrev main_v162 : Ref sig .tc := ⟨.hbm, 262, rfl⟩
abbrev main_v163 : Ref sig .tc := ⟨.hbm, 263, rfl⟩
abbrev main_v164 : Ref sig .tc := ⟨.hbm, 264, rfl⟩
abbrev main_v165 : Ref sig .tc := ⟨.hbm, 265, rfl⟩
abbrev main_v166 : Ref sig .tc := ⟨.hbm, 266, rfl⟩
abbrev main_v167 : Ref sig .tc := ⟨.hbm, 267, rfl⟩
abbrev main_v168 : Ref sig .tc := ⟨.hbm, 268, rfl⟩
abbrev main_v169 : Ref sig .tc := ⟨.hbm, 269, rfl⟩
abbrev main_cst_44 : Ref sig .tc := ⟨.hbm, 270, rfl⟩
abbrev main_v170 : Ref sig .tc := ⟨.hbm, 271, rfl⟩
abbrev main_v171 : Ref sig .tc := ⟨.hbm, 272, rfl⟩
abbrev main_cst_45 : Ref sig .tc := ⟨.hbm, 273, rfl⟩
abbrev main_v172 : Ref sig .tc := ⟨.hbm, 274, rfl⟩
abbrev main_v173 : Ref sig .tc := ⟨.hbm, 275, rfl⟩
abbrev main_cst_46 : Ref sig .tc := ⟨.hbm, 276, rfl⟩
abbrev main_v174 : Ref sig .tc := ⟨.hbm, 277, rfl⟩
abbrev main_v175 : Ref sig .tc := ⟨.hbm, 278, rfl⟩
abbrev main_v176 : Ref sig .tc := ⟨.hbm, 279, rfl⟩
abbrev main_v177 : Ref sig .tc := ⟨.hbm, 280, rfl⟩
abbrev main_v178 : Ref sig .tc := ⟨.hbm, 281, rfl⟩
abbrev main_v179 : Ref sig .tc := ⟨.hbm, 282, rfl⟩
abbrev main_v180 : Ref sig .tc := ⟨.hbm, 283, rfl⟩
abbrev main_v181 : Ref sig .tc := ⟨.hbm, 284, rfl⟩
abbrev main_v182 : Ref sig .tc := ⟨.hbm, 285, rfl⟩
abbrev main_cst_47 : Ref sig .tc := ⟨.hbm, 286, rfl⟩
abbrev main_v183 : Ref sig .tc := ⟨.hbm, 287, rfl⟩
abbrev main_v184 : Ref sig .tc := ⟨.hbm, 288, rfl⟩
abbrev main_v185 : Ref sig .tc := ⟨.hbm, 289, rfl⟩
abbrev main_v186 : Ref sig .tc := ⟨.hbm, 290, rfl⟩
abbrev main_v187 : Ref sig .tc := ⟨.hbm, 291, rfl⟩
abbrev main_v188 : Ref sig .tc := ⟨.hbm, 292, rfl⟩
abbrev main_v189 : Ref sig .tc := ⟨.hbm, 293, rfl⟩
abbrev main_v190 : Ref sig .tc := ⟨.hbm, 294, rfl⟩
abbrev main_v191 : Ref sig .tc := ⟨.hbm, 295, rfl⟩
abbrev main_call9_cst : Ref sig .tc := ⟨.hbm, 296, rfl⟩
abbrev main_call9_v0 : Ref sig .tc := ⟨.hbm, 297, rfl⟩
abbrev main_v192 : Ref sig .tc := ⟨.hbm, 298, rfl⟩
abbrev main_v193 : Ref sig .tc := ⟨.hbm, 299, rfl⟩
abbrev main_v194 : Ref sig .tc := ⟨.hbm, 300, rfl⟩
abbrev main_v195 : Ref sig .tc := ⟨.hbm, 301, rfl⟩
abbrev main_v196 : Ref sig .tc := ⟨.hbm, 302, rfl⟩
abbrev main_v197 : Ref sig .tc := ⟨.hbm, 303, rfl⟩
abbrev main_v198 : Ref sig .tc := ⟨.hbm, 304, rfl⟩
abbrev main_v199 : Ref sig .tc := ⟨.hbm, 305, rfl⟩
abbrev main_v200 : Ref sig .tc := ⟨.hbm, 306, rfl⟩
abbrev main_cst_48 : Ref sig .tc := ⟨.hbm, 307, rfl⟩
abbrev main_v201 : Ref sig .tc := ⟨.hbm, 308, rfl⟩
abbrev main_v202 : Ref sig .tc := ⟨.hbm, 309, rfl⟩
abbrev main_cst_49 : Ref sig .tc := ⟨.hbm, 310, rfl⟩
abbrev main_v203 : Ref sig .tc := ⟨.hbm, 311, rfl⟩
abbrev main_v204 : Ref sig .tc := ⟨.hbm, 312, rfl⟩
abbrev main_cst_50 : Ref sig .tc := ⟨.hbm, 313, rfl⟩
abbrev main_v205 : Ref sig .tc := ⟨.hbm, 314, rfl⟩
abbrev main_v206 : Ref sig .tc := ⟨.hbm, 315, rfl⟩
abbrev main_v207 : Ref sig .tc := ⟨.hbm, 316, rfl⟩
abbrev main_v208 : Ref sig .tc := ⟨.hbm, 317, rfl⟩
abbrev main_v209 : Ref sig .tc := ⟨.hbm, 318, rfl⟩
abbrev main_v210 : Ref sig .tc := ⟨.hbm, 319, rfl⟩
abbrev main_v211 : Ref sig .tc := ⟨.hbm, 320, rfl⟩
abbrev main_v212 : Ref sig .tc := ⟨.hbm, 321, rfl⟩

abbrev nD : Nat := 1
abbrev τ : Topo := Topo.v7x

variable {F : FTy → Type} [FloatOps F]
-- ==== Kernel2.lean ====
abbrev S8x4096x1024 : Shape := ⟨3, ![8, 4096, 1024]⟩
abbrev S8x6x1024 : Shape := ⟨3, ![8, 6, 1024]⟩
abbrev S1024 : Shape := ⟨1, ![1024]⟩
abbrev S1024x2576 : Shape := ⟨2, ![1024, 2576]⟩
abbrev S1024x1024 : Shape := ⟨2, ![1024, 1024]⟩
abbrev S1024x4096 : Shape := ⟨2, ![1024, 4096]⟩
abbrev S1024x512 : Shape := ⟨2, ![1024, 512]⟩
abbrev S1024x16 : Shape := ⟨2, ![1024, 16]⟩
abbrev S1024x2x2x4 : Shape := ⟨4, ![1024, 2, 2, 4]⟩
abbrev S4x2x2x1024 : Shape := ⟨4, ![4, 2, 2, 1024]⟩
abbrev S16x1024 : Shape := ⟨2, ![16, 1024]⟩
abbrev S512x1024 : Shape := ⟨2, ![512, 1024]⟩
abbrev S1536x1024 : Shape := ⟨2, ![1536, 1024]⟩
abbrev S1040x1024 : Shape := ⟨2, ![1040, 1024]⟩
abbrev S1x1024 : Shape := ⟨2, ![1, 1024]⟩
abbrev S8x4x128x4096 : Shape := ⟨4, ![8, 4, 128, 4096]⟩
abbrev S8x4x4096x128 : Shape := ⟨4, ![8, 4, 4096, 128]⟩
abbrev S8x4x144x4096 : Shape := ⟨4, ![8, 4, 144, 4096]⟩
abbrev S8x4096x512 : Shape := ⟨3, ![8, 4096, 512]⟩
abbrev S8x4x4x32x128 : Shape := ⟨5, ![8, 4, 4, 32, 128]⟩
abbrev S1x1024x1024 : Shape := ⟨3, ![1, 1024, 1024]⟩
abbrev S1x6x1024 : Shape := ⟨3, ![1, 6, 1024]⟩
abbrev S32x1024 : Shape := ⟨2, ![32, 1024]⟩
abbrev S32x4096 : Shape := ⟨2, ![32, 4096]⟩
abbrev S1x4x128x1024 : Shape := ⟨4, ![1, 4, 128, 1024]⟩
abbrev S1x4x1024x128 : Shape := ⟨4, ![1, 4, 1024, 128]⟩
abbrev S1x4x144x1024 : Shape := ⟨4, ![1, 4, 144, 1024]⟩
abbrev S1x1024x512 : Shape := ⟨3, ![1, 1024, 512]⟩
abbrev S1x4x4x8x128 : Shape := ⟨5, ![1, 4, 4, 8, 128]⟩
abbrev S1x1x1024 : Shape := ⟨3, ![1, 1, 1024]⟩
abbrev S1024x1 : Shape := ⟨2, ![1024, 1]⟩
abbrev S1024x1536 : Shape := ⟨2, ![1024, 1536]⟩
abbrev S1024x128 : Shape := ⟨2, ![1024, 128]⟩
abbrev S1x1x1024x128 : Shape := ⟨4, ![1, 1, 1024, 128]⟩
abbrev S128x1024 : Shape := ⟨2, ![128, 1024]⟩
abbrev S1x1x128x1024 : Shape := ⟨4, ![1, 1, 128, 1024]⟩
abbrev S1x1x16x1024 : Shape := ⟨4, ![1, 1, 16, 1024]⟩
abbrev S1x128 : Shape := ⟨2, ![1, 128]⟩
abbrev S1x1x1x1x128 : Shape := ⟨5, ![1, 1, 1, 1, 128]⟩

abbrev nBuf : Space → Nat
  | .hbm => 33
  | .vmem => 27
  | .smem => 0
  | _ => 0

abbrev bufTy : (tb : Table) → Fin (tcTables nBuf tb) → BufTy
  | .hbm, ⟨0, _⟩ => ⟨S8x4096x1024, .f32⟩
  | .hbm, ⟨1, _⟩ => ⟨S8x6x1024, .f32⟩
  | .hbm, ⟨2, _⟩ => ⟨S1024, .f32⟩
  | .hbm, ⟨3, _⟩ => ⟨S1024x2576, .f32⟩
  | .hbm, ⟨4, _⟩ => ⟨S1024x1024, .f32⟩
  | .hbm, ⟨5, _⟩ => ⟨S1024x4096, .f32⟩
  | .hbm, ⟨6, _⟩ => ⟨S1024x512, .f32⟩
  | .hbm, ⟨7, _⟩ => ⟨S1024x512, .f32⟩
  | .hbm, ⟨8, _⟩ => ⟨S1024x512, .f32⟩
  | .hbm, ⟨9, _⟩ => ⟨S1024x512, .f32⟩
  | .hbm, ⟨10, _⟩ => ⟨S1024x16, .f32⟩
  | .hbm, ⟨11, _⟩ => ⟨S1024x512, .f32⟩
  | .hbm, ⟨12, _⟩ => ⟨S1024x2x2x4, .f32⟩
  | .hbm, ⟨13, _⟩ => ⟨S4x2x2x1024, .f32⟩
  | .hbm, ⟨14, _⟩ => ⟨S16x1024, .f32⟩
  | .hbm, ⟨15, _⟩ => ⟨S512x1024, .f32⟩
  | .hbm, ⟨16, _⟩ => ⟨S512x1024, .f32⟩
  | .hbm, ⟨17, _⟩ => ⟨S512x1024, .f32⟩
  | .hbm, ⟨18, _⟩ => ⟨S1536x1024, .f32⟩
  | .hbm, ⟨19, _⟩ => ⟨S1536x1024, .bf16⟩
  | .hbm, ⟨20, _⟩ => ⟨S512x1024, .f32⟩
  | .hbm, ⟨21, _⟩ => ⟨S512x1024, .f32⟩
  | .hbm, ⟨22, _⟩ => ⟨S1040x1024, .f32⟩
  | .hbm, ⟨23, _⟩ => ⟨S1040x1024, .bf16⟩
  | .hbm, ⟨24, _⟩ => ⟨S1x1024, .f32⟩
  | .hbm, ⟨25, _⟩ => ⟨S8x4x128x4096, .bf16⟩
  | .hbm, ⟨26, _⟩ => ⟨S8x4x4096x128, .bf16⟩
  | .hbm, ⟨27, _⟩ => ⟨S8x4x144x4096, .bf16⟩
  | .hbm, ⟨28, _⟩ => ⟨S8x4096x512, .bf16⟩
  | .hbm, ⟨29, _⟩ => ⟨S8x4096x512, .bf16⟩
  | .hbm, ⟨30, _⟩ => ⟨S8x4x4x32x128, .f32⟩
  | .hbm, ⟨31, _⟩ => ⟨S1024x1024, .bf16⟩
  | .hbm, ⟨32, _⟩ => ⟨S1024x4096, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1536x1024, .bf16⟩
  | .local _ .vmem, ⟨6, _⟩ => ⟨S1040x1024, .bf16⟩
  | .local _ .vmem, ⟨7, _⟩ => ⟨S32x1024, .f32⟩
  | .local _ .vmem, ⟨8, _⟩ => ⟨S32x1024, .f32⟩
  | .local _ .vmem, ⟨9, _⟩ => ⟨S32x4096, .f32⟩
  | .local _ .vmem, ⟨10, _⟩ => ⟨S32x4096, .f32⟩
  | .local _ .vmem, ⟨11, _⟩ => ⟨S1x4x128x1024, .bf16⟩
  | .local _ .vmem, ⟨12, _⟩ => ⟨S1x4x128x1024, .bf16⟩
  | .local _ .vmem, ⟨13, _⟩ => ⟨S1x4x1024x128, .bf16⟩
  | .local _ .vmem, ⟨14, _⟩ => ⟨S1x4x1024x128, .bf16⟩
  | .local _ .vmem, ⟨15, _⟩ => ⟨S1x4x144x1024, .bf16⟩
  | .local _ .vmem, ⟨16, _⟩ => ⟨S1x4x144x1024, .bf16⟩
  | .local _ .vmem, ⟨17, _⟩ => ⟨S1x1024x512, .bf16⟩
  | .local _ .vmem, ⟨18, _⟩ => ⟨S1x1024x512, .bf16⟩
  | .local _ .vmem, ⟨19, _⟩ => ⟨S1x1024x512, .bf16⟩
  | .local _ .vmem, ⟨20, _⟩ => ⟨S1x1024x512, .bf16⟩
  | .local _ .vmem, ⟨21, _⟩ => ⟨S1x4x4x8x128, .f32⟩
  | .local _ .vmem, ⟨22, _⟩ => ⟨S1x4x4x8x128, .f32⟩
  | .local _ .vmem, ⟨23, _⟩ => ⟨S32x1024, .bf16⟩
  | .local _ .vmem, ⟨24, _⟩ => ⟨S32x1024, .bf16⟩
  | .local _ .vmem, ⟨25, _⟩ => ⟨S32x4096, .bf16⟩
  | .local _ .vmem, ⟨26, _⟩ => ⟨S32x4096, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19_0 : Ref sig .tc := ⟨.hbm, 25, rfl⟩
abbrev main_v19_1 : Ref sig .tc := ⟨.hbm, 26, rfl⟩
abbrev main_v19_2 : Ref sig .tc := ⟨.hbm, 27, rfl⟩
abbrev main_v19_3 : Ref sig .tc := ⟨.hbm, 28, rfl⟩
abbrev main_v19_4 : Ref sig .tc := ⟨.hbm, 29, rfl⟩
abbrev main_v19_5 : Ref sig .tc := ⟨.hbm, 30, rfl⟩
abbrev main_v19_6 : Ref sig .tc := ⟨.hbm, 31, rfl⟩
abbrev main_v19_7 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, arg1.toNat, c0_i32_1.toNat]

def cc0_transform_13 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_14 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1536x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1040x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S32x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S32x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x4x128x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x4x1024x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x4x144x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1024x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x4x4x8x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S32x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S32x4096 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== Reference2Ideal.lean ====
abbrev S8x4096x1024 : Shape := ⟨3, ![8, 4096, 1024]⟩
abbrev S8x6x1024 : Shape := ⟨3, ![8, 6, 1024]⟩
abbrev S1024 : Shape := ⟨1, ![1024]⟩
abbrev S1024x2576 : Shape := ⟨2, ![1024, 2576]⟩
abbrev S1024x1024 : Shape := ⟨2, ![1024, 1024]⟩
abbrev S1024x4096 : Shape := ⟨2, ![1024, 4096]⟩
abbrev S8x1x1024 : Shape := ⟨3, ![8, 1, 1024]⟩
abbrev S8x1024 : Shape := ⟨2, ![8, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x2576 : Shape := ⟨3, ![8, 4096, 2576]⟩
abbrev S8x4096x512 : Shape := ⟨3, ![8, 4096, 512]⟩
abbrev S8x4096x16 : Shape := ⟨3, ![8, 4096, 16]⟩
abbrev S8x4096x4x128 : Shape := ⟨4, ![8, 4096, 4, 128]⟩
abbrev S8x4x4096x128 : Shape := ⟨4, ![8, 4, 4096, 128]⟩
abbrev S8x4x128x4096 : Shape := ⟨4, ![8, 4, 128, 4096]⟩
abbrev S8x4x16x4096 : Shape := ⟨4, ![8, 4, 16, 4096]⟩
abbrev S8x4x144x4096 : Shape := ⟨4, ![8, 4, 144, 4096]⟩
abbrev S8x4096x2x2x4 : Shape := ⟨5, ![8, 4096, 2, 2, 4]⟩
abbrev S8x4x2x2x4096 : Shape := ⟨5, ![8, 4, 2, 2, 4096]⟩
abbrev S8x4x4x32x128 : Shape := ⟨5, ![8, 4, 4, 32, 128]⟩

abbrev nBuf : Space → Nat
  | .hbm => 66
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x6x1024, .f32⟩
  | .hbm, ⟨2, _⟩ => ⟨S1024, .f32⟩
  | .hbm, ⟨3, _⟩ => ⟨S1024x2576, .f32⟩
  | .hbm, ⟨4, _⟩ => ⟨S1024x1024, .f32⟩
  | .hbm, ⟨5, _⟩ => ⟨S1024x4096, .f32⟩
  | .hbm, ⟨6, _⟩ => ⟨S8x1x1024, .f32⟩
  | .hbm, ⟨7, _⟩ => ⟨S8x1024, .f32⟩
  | .hbm, ⟨8, _⟩ => ⟨S8x1x1024, .f32⟩
  | .hbm, ⟨9, _⟩ => ⟨S8x1024, .f32⟩
  | .hbm, ⟨10, _⟩ => ⟨S8x4096x1024, .f32⟩
  | .hbm, ⟨11, _⟩ => ⟨S_, .f32⟩
  | .hbm, ⟨12, _⟩ => ⟨S8x4096, .f32⟩
  | .hbm, ⟨13, _⟩ => ⟨S8x4096x1, .f32⟩
  | .hbm, ⟨14, _⟩ => ⟨S_, .f32⟩
  | .hbm, ⟨15, _⟩ => ⟨S8x4096x1, .f32⟩
  | .hbm, ⟨16, _⟩ => ⟨S8x4096x1, .f32⟩
  | .hbm, ⟨17, _⟩ => ⟨S_, .f32⟩
  | .hbm, ⟨18, _⟩ => ⟨S8x4096x1, .f32⟩
  | .hbm, ⟨19, _⟩ => ⟨S8x4096x1, .f32⟩
  | .hbm, ⟨20, _⟩ => ⟨S8x4096x1, .f32⟩
  | .hbm, ⟨21, _⟩ => ⟨S8x4096x1024, .f32⟩
  | .hbm, ⟨22, _⟩ => ⟨S8x4096x1024, .f32⟩
  | .hbm, ⟨23, _⟩ => ⟨S1x1x1024, .f32⟩
  | .hbm, ⟨24, _⟩ => ⟨S8x4096x1024, .f32⟩
  | .hbm, ⟨25, _⟩ => ⟨S8x4096x1024, .f32⟩
  | .hbm, ⟨26, _⟩ => ⟨S8x1x1024, .f32⟩
  | .hbm, ⟨27, _⟩ => ⟨S_, .f32⟩
  | .hbm, ⟨28, _⟩ => ⟨S8x1x1024, .f32⟩
  | .hbm, ⟨29, _⟩ => ⟨S8x1x1024, .f32⟩
  | .hbm, ⟨30, _⟩ => ⟨S8x4096x1024, .f32⟩
  | .hbm, ⟨31, _⟩ => ⟨S8x4096x1024, .f32⟩
  | .hbm, ⟨32, _⟩ => ⟨S8x1x1024, .f32⟩
  | .hbm, ⟨33, _⟩ => ⟨S8x4096x1024, .f32⟩
  | .hbm, ⟨34, _⟩ => ⟨S8x4096x1024, .f32⟩
  | .hbm, ⟨35, _⟩ => ⟨S8x4096x2576, .f32⟩
  | .hbm, ⟨36, _⟩ => ⟨S8x4096x512, .f32⟩
  | .hbm, ⟨37, _⟩ => ⟨S8x4096x512, .f32⟩
  | .hbm, ⟨38, _⟩ => ⟨S8x4096x512, .f32⟩
  | .hbm, ⟨39, _⟩ => ⟨S8x4096x512, .f32⟩
  | .hbm, ⟨40, _⟩ => ⟨S8x4096x16, .f32⟩
  | .hbm, ⟨41, _⟩ => ⟨S8x4096x512, .f32⟩
  | .hbm, ⟨42, _⟩ => ⟨S8x4096x4x128, .f32⟩
  | .hbm, ⟨43, _⟩ => ⟨S8x4x4096x128, .f32⟩
  | .hbm, ⟨44, _⟩ => ⟨S_, .f32⟩
  | .hbm, ⟨45, _⟩ => ⟨S8x4x4096x128, .f32⟩
  | .hbm, ⟨46, _⟩ => ⟨S8x4x4096x128, .f32⟩
  | .hbm, ⟨47, _⟩ => ⟨S8x4x128x4096, .f32⟩
  | .hbm, ⟨48, _⟩ => ⟨S8x4096x4x128, .f32⟩
  | .hbm, ⟨49, _⟩ => ⟨S8x4x4096x128, .f32⟩
  | .hbm, ⟨50, _⟩ => ⟨S8x4x128x4096, .f32⟩
  | .hbm, ⟨51, _⟩ => ⟨S_, .f32⟩
  | .hbm, ⟨52, _⟩ => ⟨S8x4x16x4096, .f32⟩
  | .hbm, ⟨53, _⟩ => ⟨S8x4x144x4096, .f32⟩
  | .hbm, ⟨54, _⟩ => ⟨S8x4096x2x2x4, .f32⟩
  | .hbm, ⟨55, _⟩ => ⟨S8x4x2x2x4096, .f32⟩
  | .hbm, ⟨56, _⟩ => ⟨S8x4x4x32x128, .f32⟩
  | .hbm, ⟨57, _⟩ => ⟨S8x4x128x4096, .bf16⟩
  | .hbm, ⟨58, _⟩ => ⟨S8x4096x4x128, .f32⟩
  | .hbm, ⟨59, _⟩ => ⟨S8x4x4096x128, .f32⟩
  | .hbm, ⟨60, _⟩ => ⟨S8x4x4096x128, .bf16⟩
  | .hbm, ⟨61, _⟩ => ⟨S8x4x144x4096, .bf16⟩
  | .hbm, ⟨62, _⟩ => ⟨S8x4096x512, .bf16⟩
  | .hbm, ⟨63, _⟩ => ⟨S8x4096x512, .bf16⟩
  | .hbm, ⟨64, _⟩ => ⟨S1024x1024, .bf16⟩
  | .hbm, ⟨65, _⟩ => ⟨S1024x4096, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_3 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_4 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩

abbrev nD : Nat := 1
abbrev τ : Topo := Topo.v7x

variable {F : FTy → Type} [FloatOps F]
-- ==== Kernel3.lean ====
abbrev S8x1024 : Shape := ⟨2, ![8, 1024]⟩
abbrev S1024x6144 : Shape := ⟨2, ![1024, 6144]⟩
abbrev S6144 : Shape := ⟨1, ![6144]⟩
abbrev S1x6144 : Shape := ⟨2, ![1, 6144]⟩
abbrev S8x6144 : Shape := ⟨2, ![8, 6144]⟩
abbrev S8x128 : Shape := ⟨2, ![8, 128]⟩
abbrev S128x6144 : Shape := ⟨2, ![128, 6144]⟩

abbrev nBuf : Space → Nat
  | .hbm => 5
  | .vmem => 6
  | .smem => 0
  | _ => 0

abbrev bufTy : (tb : Table) → Fin (tcTables nBuf tb) → BufTy
  | .hbm, ⟨0, _⟩ => ⟨S8x1024, .f32⟩
  | .hbm, ⟨1, _⟩ => ⟨S1024x6144, .f32⟩
  | .hbm, ⟨2, _⟩ => ⟨S6144, .f32⟩
  | .hbm, ⟨3, _⟩ => ⟨S1x6144, .f32⟩
  | .hbm, ⟨4, _⟩ => ⟨S8x6144, .f32⟩
  | .local _ .vmem, ⟨0, _⟩ => ⟨S8x128, .f32⟩
  | .local _ .vmem, ⟨1, _⟩ => ⟨S8x128, .f32⟩
  | .local _ .vmem, ⟨2, _⟩ => ⟨S128x6144, .f32⟩
  | .local _ .vmem, ⟨3, _⟩ => ⟨S128x6144, .f32⟩
  | .local _ .vmem, ⟨4, _⟩ => ⟨S1x6144, .f32⟩
  | .local _ .vmem, ⟨5, _⟩ => ⟨S8x6144, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== Reference3Ideal.lean ====
abbrev S8x1024 : Shape := ⟨2, ![8, 1024]⟩
abbrev S1024x6144 : Shape := ⟨2, ![1024, 6144]⟩
abbrev S6144 : Shape := ⟨1, ![6144]⟩
abbrev S_ : Shape := ⟨0, ![]⟩
abbrev S8x6144 : Shape := ⟨2, ![8, 6144]⟩
abbrev S1x6144 : Shape := ⟨2, ![1, 6144]⟩

abbrev nBuf : Space → Nat
  | .hbm => 16
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024x6144, .f32⟩
  | .hbm, ⟨2, _⟩ => ⟨S6144, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S8x6144, .f32⟩
  | .hbm, ⟨13, _⟩ => ⟨S1x6144, .f32⟩
  | .hbm, ⟨14, _⟩ => ⟨S8x6144, .f32⟩
  | .hbm, ⟨15, _⟩ => ⟨S8x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Proof.Adaln.lean ====
/-
  The adaptive-normalisation call: `silu(c) · w + bias`, accumulated over eight blocks of 128 features.
-/
module

public import proofs.«01_k».proof.Defs
public import proofs.«01_k».proof.Proof.Gen.Kernel3Ideal.Value
public import proofs.«01_k».proof.Proof.Gen.Reference3Ideal.Run
public import proofs.«01_k».proof.Proof.Gen.Reference3Ideal.Read
public import Idealize.ShloMosaic.Lib.Pipeline.ValueKit
public import Idealize.ShloMosaic.Lib.Pointwise

@[expose] public section

noncomputable section

open Idealize.ShloMosaic Idealize.ShloMosaic.TcCoe Idealize.SL.Sem

namespace Cert.Adaln

open Cert.Kernel3Ideal Cert.Kernel3Ideal.Gen Cert.Kernel3Ideal.Value

variable (m : (ℓ : Loc nD τ sig) → Buf (Elt Ideal) ℓ)

/-- One block's products at `(r, q)`. -/
def blockSum (v : Vec Ideal S8x128 .f32) (w : Vec Ideal S128x6144 .f32) (r : Fin 8) (q : Fin 6144) : EReal :=
  ∑ k : Fin 128, (v (ix2 r k) * Ideal.logistic (v (ix2 r k))) * w (ix2 k q)

/-- The reset leaves the bias plus the first block's products, entry by entry. -/
theorem start_at (v : Vec Ideal S8x128 .f32) (b : Vec Ideal S1x6144 .f32) (w : Vec Ideal S128x6144 .f32) (r : Fin 8) (q : Fin 6144) :
    k0_pay2 (F := Ideal) v (k0_pay1 b) w (ix2 r q) = b (ix2 0 q) + blockSum v w r q := by
  unfold k0_pay2 k0_pay1 blockSum
  pointwise

/-- A step adds its block's products, entry by entry. -/
theorem step_at (v : Vec Ideal S8x128 .f32) (acc : Vec Ideal S8x6144 .f32) (w : Vec Ideal S128x6144 .f32) (r : Fin 8) (q : Fin 6144) :
    k0_pay2 (F := Ideal) v acc w (ix2 r q) = acc (ix2 r q) + blockSum v w r q := by
  unfold k0_pay2 blockSum
  pointwise

/-- The block of the first operand at point `n` holds the features `128 n …`. -/
theorem idx0 : ∀ t : Fin cfg0.N, win0_0.index t = ![0, t.val] := (by decide +kernel : ∀ t : Fin grid0.N, _)
/-- The block of the weight at point `n` holds the rows `128 n …`. -/
theorem idx1 : ∀ t : Fin cfg0.N, win0_1.index t = ![t.val, 0] := (by decide +kernel : ∀ t : Fin grid0.N, _)
/-- The bias is one block. -/
theorem idx2 : ∀ t : Fin cfg0.N, win0_2.index t = ![0, 0] := (by decide +kernel : ∀ t : Fin grid0.N, _)

/-- One feature's product at `(r, q)`. -/
def term (X : Vec Ideal S8x1024 .f32) (W : Vec Ideal S1024x6144 .f32) (r : Fin 8) (q : Fin 6144) (k : Fin 1024) : EReal :=
  (X (ix2 r k) * Ideal.logistic (X (ix2 r k))) * W (ix2 k q)

/-- The products the point `n` adds at `(r, q)`. -/
def part (X : Vec Ideal S8x1024 .f32) (W : Vec Ideal S1024x6144 .f32) (n : ℕ) (r : Fin 8) (q : Fin 6144) : EReal :=
  if h : n < 8 then ∑ k : Fin 128, term X W r q ⟨n * 128 + k, by omega⟩ else 0

/-- A point's products over its blocks are its products over the arrays. -/
theorem part_blocks (c : Dev nD) (n : ℕ) (h : n < cfg0.N) (r : Fin 8) (q : Fin 6144) :
    blockSum (iblk m c 0 ⟨n, h⟩) (iblk m c 1 ⟨n, h⟩) r q
      = part (m ((c : Thread nD τ).loc main_arg0)) (m ((c : Thread nD τ).loc main_arg1)) n r q := by
  have h8 : n < 8 := lt_of_lt_of_eq h N_0
  unfold part blockSum term
  rw [dif_pos h8]
  blk_point [iblk, V, idx0 ⟨n, h⟩, idx1 ⟨n, h⟩]

/-- The bias block is the bias. -/
theorem bias_in (c : Dev nD) (n : ℕ) (h : n < cfg0.N) (q : Fin 6144) :
    iblk m c 2 ⟨n, h⟩ (ix2 0 q) = m ((c : Thread nD τ).loc main_arg2) (ix1 q) := by
  blk_ext! [iblk, V, idx2 ⟨n, h⟩]

open Cert.Reference3Ideal.Read in
/-- The reference at `(r, q)`: all features' products plus the bias. -/
theorem ref_at (X : Vec Ideal S8x1024 .f32) (W : Vec Ideal S1024x6144 .f32) (B : Vec Ideal S6144 .f32) (r : Fin 8) (q : Fin 6144) :
    val_main_v4 (F := Ideal) X W B (ix2 r q) = (∑ k : Fin 1024, term X W r q k) + B (ix1 q) := by
  unfold term Ideal.logistic
  pointwise [val_main_v4, val_main_v1, val_main_v3, val_main_v2, val_main_v0, val_main_call0_v5, val_main_call0_v4,
    val_main_call0_v3, val_main_call0_v2, val_main_call0_v1, val_main_call0_v0, val_main_call0_cst, val_main_call0_cst_0]

/-- What the result array holds: the reference's value, entry by entry. -/
theorem result_eq (c : Dev nD) :
    G3 m c = Cert.Reference3Ideal.Read.val_main_v4 (F := Ideal) (m ((c : Thread nD τ).loc main_arg0))
      (m ((c : Thread nD τ).loc main_arg1)) (m ((c : Thread nD τ).loc main_arg2)) := by
  funext i
  idx_vars i
  set X : Vec Ideal S8x1024 .f32 := m ((c : Thread nD τ).loc main_arg0) with hX
  set W : Vec Ideal S1024x6144 .f32 := m ((c : Thread nD τ).loc main_arg1) with hW
  set B : Vec Ideal S6144 .f32 := m ((c : Thread nD τ).loc main_arg2) with hB
  have hr : run3Of (ix2 i0 i1) = 0 := by
    have h0 := i0.isLt; have h1 := i1.isLt
    show 1 * (i0.val / 8 - 0) + 1 * (i1.val / 6144 - 0) = 0
    omega
  have hl : loc3Of (ix2 i0 i1) = ix2 i0 i1 := by
    have h0 := i0.isLt; have h1 := i1.isLt
    funext a; apply Fin.ext
    match a with
    | ⟨0, _⟩ => exact Nat.mod_eq_of_lt h0
    | ⟨1, _⟩ => exact Nat.mod_eq_of_lt h1
  unfold G3
  rw [dif_pos (by rw [hr, show cfg0.N = 8 from N_0]; omega), hl]
  have key := Pipeline.accAt_add_apply (reset3 m c) (step3 m c)
    (fun i => B (ix1 (i 1))) (fun n i => part X W n (i 0) (i 1)) (8 * run3Of (ix2 i0 i1)) 7
    (fun h i => by
      idx_vars i
      unfold reset3
      rw [start_at, part_blocks, bias_in])
    (fun n h acc i _ _ => by
      idx_vars i
      unfold step3
      rw [step_at, part_blocks]) 7 le_rfl (by rw [hr, show cfg0.N = 8 from N_0]; omega) (ix2 i0 i1)
  refine key.trans ?_
  rw [hr]
  have parts : ∑ s ∈ Finset.range (7 + 1), part X W (8 * 0 + s) i0 i1 = ∑ k : Fin 1024, term X W i0 i1 k := by
    rw [Fin.sum_univ_tiles 8 128 rfl, Finset.sum_range]
    refine Finset.sum_congr rfl fun j _ => ?_
    simp only [Nat.mul_zero, Nat.zero_add]
    unfold part
    rw [dif_pos (by omega)]
  refine (congrArg _ parts).trans ?_
  rw [ref_at, add_comm]
  rfl

/-- The call computes what the reference computes, from every memory. -/
theorem algebraic : @Cert.algebraic_Kernel3Ideal_Reference3Ideal Cert.Kernel3Ideal.Gen.facts Cert.Reference3Ideal.Gen.facts := by
  intro m g m' g' _ hargs
  refine ⟨fun c => Cert.Reference3Ideal.Read.val_main_v4 (F := Ideal) (m ((c : Thread nD τ).loc main_arg0))
      (m ((c : Thread nD τ).loc main_arg1)) (m ((c : Thread nD τ).loc main_arg2)), ?_, ?_⟩
  · refine (θ_run _ _ _).mono (fun r h c => ?_) (Cert.Kernel3Ideal.Value.run m g)
    obtain ⟨h0, hrest⟩ := h c
    exact ⟨h0.trans (result_eq m c), hrest⟩
  · refine (θ_run _ _ _).mono (fun r h c => ?_) (Cert.Reference3Ideal.Value.run (F := Ideal) m' g')
    obtain ⟨h0, hrest⟩ := h c
    obtain ⟨e0, e1, e2⟩ := hargs c
    refine ⟨h0.trans ?_, hrest⟩
    rw [e0, e1, e2]
    rfl

end Cert.Adaln
-- ==== Proof.Outffn.Spec.lean ====
/-
  The output stage of the layer, one row at a time: the mixer's projection added to the residual, the normalised and
  modulated row, the squared-ReLU feed-forward over all 4096 hidden features, and the final normalisation.
-/
module

public import Idealize.ShloMosaic.Lib.Pointwise
public import Idealize.ShloMosaic.Lib.IdealHost

@[expose] public section

noncomputable section

open Idealize.ShloMosaic

namespace Cert.Outffn

/-- A row over its root mean square (`n` the row's length, the added constant the one of the programs). -/
def rms {K : ℕ} (n : EReal) (v : Fin K → EReal) (d : Fin K) : EReal :=
  v d * Ideal.rsqrt (Ideal.div (∑ e, v e * v e) n + Ideal.ofBits FTy.f32 0x358637BD#32)

/-- The row length 1024 as a program constant. -/
abbrev rowLen : EReal := Ideal.ofBits FTy.f32 0x44800000#32

/-- The head length 128 as a program constant. -/
abbrev headLen : EReal := Ideal.ofBits FTy.f32 0x43000000#32

/-- The residual row after the mixer: both halves of the mixed row projected, gated and added. -/
def mix (x g : Fin 1024 → EReal) (ya yb : Fin 512 → EReal) (wo wf : Fin 512 → Fin 1024 → EReal) (d : Fin 1024) : EReal :=
  x d + g d * (∑ k, ya k * wo k d + ∑ k, yb k * wf k d)

/-- The feed-forward's input row: normalised, scaled and shifted. -/
def ffnIn (v gf sc sh : Fin 1024 → EReal) (d : Fin 1024) : EReal :=
  rms rowLen v d * gf d * (Ideal.ofBits FTy.f32 0x3F800000#32 + sc d) + sh d

/-- One hidden feature: the squared positive part of its product. -/
def hidden {J : ℕ} (h : Fin 1024 → EReal) (w : Fin 1024 → Fin J → EReal) (j : Fin J) : EReal :=
  max (∑ d, h d * w d j) (Ideal.ofBits FTy.f32 0x00000000#32) * max (∑ d, h d * w d j) (Ideal.ofBits FTy.f32 0x00000000#32)

/-- The residual row after the feed-forward. -/
def ffnRes (v g gf sc sh : Fin 1024 → EReal) (w1 : Fin 1024 → Fin 4096 → EReal) (w2 : Fin 4096 → Fin 1024 → EReal) (d : Fin 1024) : EReal :=
  v d + g d * ∑ j, hidden (ffnIn v gf sc sh) w1 j * w2 j d

/-- The output row. -/
def outRow (x g1 sh sc g2 gf gl : Fin 1024 → EReal) (ya yb : Fin 512 → EReal) (wo wf : Fin 512 → Fin 1024 → EReal)
    (w1 : Fin 1024 → Fin 4096 → EReal) (w2 : Fin 4096 → Fin 1024 → EReal) (d : Fin 1024) : EReal :=
  rms rowLen (ffnRes (mix x g1 ya yb wo wf) g2 gf sc sh w1 w2) d * gl d

end Cert.Outffn
-- ==== Proof.Outffn.Ubuf.lean ====
module

public import proofs.«01_k».proof.Proof.Outffn.Spec
public import proofs.«01_k».proof.Proof.Gen.KernelIdeal.Value
public import Idealize.ShloMosaic.Lib.Pointwise
public import Idealize.ShloMosaic.Lib.Pipeline.ValueKit
public import Idealize.ShloMosaic.Lib.Pipeline.ReadBack

@[expose] public section

/-! # The pooling buffer

Before it pools a tile the kernel stacks 544 rows of `u`: the last sixteen rows of the tile before
(zeros before the first tile), the tile's 512 rows, and the first sixteen rows of the tile after
(zeros after the last).  `ub` is that buffer, and the loads of its blocks read it. -/

noncomputable section
open Idealize.ShloMosaic Idealize.ShloMosaic.TcCoe Idealize.SL.Sem

namespace Cert.Outffn
open Cert.KernelIdeal Cert.KernelIdeal.Gen

/-- The place in a matrix of a place of one of its blocks. -/
theorem emb_unit2 {m n a b : ℕ} (o0 o1 : ℕ)
    (inb : ∀ x, (![o0, o1] : Fin 2 → ℕ) x + (![a, b] : Fin 2 → ℕ) x ≤ (⟨2, ![m, n]⟩ : Shape).size x) (r : Fin a) (q : Fin b)
    (h0 : o0 + r.val < m) (h1 : o1 + q.val < n) :
    (Rect.unit (s := ⟨2, ![m, n]⟩) ![o0, o1] ![a, b] inb).emb (ix2 r q) = ix2 ⟨o0 + r.val, h0⟩ ⟨o1 + q.val, h1⟩ := by
  funext x
  refine Fin.ext ?_
  rw [Idealize.ShloMosaic.ValueKit.rect_emb_unit_val]
  match x with
  | ⟨0, _⟩ => rfl
  | ⟨1, _⟩ => rfl

/-- A place lies in a block exactly when its row and its column do. -/
theorem mem_unit2 {m n a b : ℕ} (o0 o1 : ℕ)
    (inb : ∀ x, (![o0, o1] : Fin 2 → ℕ) x + (![a, b] : Fin 2 → ℕ) x ≤ (⟨2, ![m, n]⟩ : Shape).size x) (r : Fin m) (q : Fin n) :
    ix2 r q ∈ (Rect.unit (s := ⟨2, ![m, n]⟩) ![o0, o1] ![a, b] inb).set ↔
      (o0 ≤ r.val ∧ r.val < o0 + a) ∧ o1 ≤ q.val ∧ q.val < o1 + b := by
  rw [Rect.mem_set_unit]
  exact Fin.forall_fin_two

theorem not_mem_unit2 {m n a b : ℕ} (o0 o1 : ℕ)
    (inb : ∀ x, (![o0, o1] : Fin 2 → ℕ) x + (![a, b] : Fin 2 → ℕ) x ≤ (⟨2, ![m, n]⟩ : Shape).size x) (r : Fin m) (q : Fin n)
    (h : r.val < o0 ∨ o0 + a ≤ r.val ∨ q.val < o1 ∨ o1 + b ≤ q.val) :
    ix2 r q ∉ (Rect.unit (s := ⟨2, ![m, n]⟩) ![o0, o1] ![a, b] inb).set := fun hm => by
  have := (mem_unit2 o0 o1 inb r q).1 hm
  omega

/-- A place off the last store's block reads the earlier stores. -/
theorem canon_skip2 {m n a b : ℕ} {e : EltTy} (o0 o1 : ℕ)
    (inb : ∀ x, (![o0, o1] : Fin 2 → ℕ) x + (![a, b] : Fin 2 → ℕ) x ≤ (⟨2, ![m, n]⟩ : Shape).size x)
    (w : Vec Ideal ⟨2, ![a, b]⟩ e) (L : List (View.Piece (Elt Ideal) ⟨2, ![m, n]⟩ e)) (r : Fin m) (q : Fin n)
    (h : r.val < o0 ∨ o0 + a ≤ r.val ∨ q.val < o1 ∨ o1 + b ≤ q.val) :
    View.canon (⟨Rect.unit (s := ⟨2, ![m, n]⟩) ![o0, o1] ![a, b] inb, w⟩ :: L) (ix2 r q) = View.canon L (ix2 r q) :=
  View.canon_cons_of_not_mem _ _ (not_mem_unit2 o0 o1 inb r q h)

/-- A place in the last store's block reads what it stored. -/
theorem canon_hit2 {m n a b : ℕ} {e : EltTy} (o0 o1 : ℕ)
    (inb : ∀ x, (![o0, o1] : Fin 2 → ℕ) x + (![a, b] : Fin 2 → ℕ) x ≤ (⟨2, ![m, n]⟩ : Shape).size x)
    (w : Vec Ideal ⟨2, ![a, b]⟩ e) (L : List (View.Piece (Elt Ideal) ⟨2, ![m, n]⟩ e)) (r : Fin m) (q : Fin n)
    (r' : Fin a) (q' : Fin b) (hr : o0 + r'.val = r.val) (hq : o1 + q'.val = q.val) :
    View.canon (⟨Rect.unit (s := ⟨2, ![m, n]⟩) ![o0, o1] ![a, b] inb, w⟩ :: L) (ix2 r q) = w (ix2 r' q') := by
  have e1 := View.canon_cons_emb (Rect.unit (s := ⟨2, ![m, n]⟩) ![o0, o1] ![a, b] inb) w L (ix2 r' q')
  rw [emb_unit2 o0 o1 inb r' q' (by omega) (by omega)] at e1
  have h0 : (⟨o0 + r'.val, by omega⟩ : Fin m) = r := Fin.ext hr
  have h1 : (⟨o1 + q'.val, by omega⟩ : Fin n) = q := Fin.ext hq
  rw [h0, h1] at e1
  exact e1

variable (W : BitVec 32) (x3 : Vec Ideal S1x512x512 .bf16) (x4 x5 : Vec Ideal S1x16x512 .bf16)

/-- The buffer's row `y`, channel `c`. -/
def ub (y : ℕ) (c : Fin 512) : EReal :=
  if h : y < 16 then Scalar.select (Scalar.cmpi .sgt W 0#32) (x4 (ix3 0 ⟨y, h⟩ c) : EReal) 0
  else if h : y < 528 then x3 (ix3 0 ⟨y - 16, by omega⟩ c)
  else if h : y < 544 then Scalar.select (Scalar.cmpi .slt W 7#32) (x5 (ix3 0 ⟨y - 528, by omega⟩ c) : EReal) 0
  else 0

/-- The first two stores. -/
def stores2 : List (View.Piece (Elt Ideal) S544x512 .bf16) :=
  [⟨Rect.unit ![16, 0] ![512, 512] inb_S544x512_S512x512_16_0, k0_pay39 (F := Ideal) x3⟩,
    ⟨Rect.unit ![0, 0] ![16, 512] inb_S544x512_S16x512_0_0, k0_pay38 (F := Ideal) W x4⟩]

/-- All three. -/
def stores3 : List (View.Piece (Elt Ideal) S544x512 .bf16) :=
  ⟨Rect.unit ![528, 0] ![16, 512] inb_S544x512_S16x512_528_0, k0_pay40 (F := Ideal) W x5⟩ :: stores2 W x3 x4

theorem pay38_at (r : Fin 16) (q : Fin 512) :
    k0_pay38 (F := Ideal) W x4 (ix2 r q) = Scalar.select (Scalar.cmpi .sgt W 0#32) (x4 (ix3 0 r q) : EReal) 0 := by
  unfold k0_pay38
  pointwise

theorem pay40_at (r : Fin 16) (q : Fin 512) :
    k0_pay40 (F := Ideal) W x5 (ix2 r q) = Scalar.select (Scalar.cmpi .slt W 7#32) (x5 (ix3 0 r q) : EReal) 0 := by
  unfold k0_pay40
  pointwise

theorem pay39_at (r : Fin 512) (q : Fin 512) : k0_pay39 (F := Ideal) x3 (ix2 r q) = x3 (ix3 0 r q) := by
  unfold k0_pay39
  pointwise

theorem stores2_at (y : Fin 544) (c : Fin 512) (hy : y.val < 528) :
    View.canon (stores2 W x3 x4) (ix2 y c) = ub W x3 x4 x5 y.val c := by
  unfold stores2
  by_cases h : y.val < 16
  · refine (canon_skip2 (m := 544) (n := 512) 16 0 inb_S544x512_S512x512_16_0 _ _ y c (by omega)).trans ?_
    refine (canon_hit2 (m := 544) (n := 512) 0 0 inb_S544x512_S16x512_0_0 _ _ y c ⟨y.val, h⟩ c (Nat.zero_add _) (Nat.zero_add _)).trans ?_
    refine (pay38_at W x4 ⟨y.val, h⟩ c).trans ?_
    unfold ub; rw [dif_pos h]
  · refine (canon_hit2 (m := 544) (n := 512) 16 0 inb_S544x512_S512x512_16_0 _ _ y c ⟨y.val - 16, by omega⟩ c
      (by show 16 + (y.val - 16) = y.val; omega) (Nat.zero_add _)).trans ?_
    refine (pay39_at x3 ⟨y.val - 16, by omega⟩ c).trans ?_
    unfold ub; rw [dif_neg h, dif_pos hy]

theorem stores3_at (y : Fin 544) (c : Fin 512) :
    View.canon (stores3 W x3 x4 x5) (ix2 y c) = ub W x3 x4 x5 y.val c := by
  unfold stores3
  by_cases h : y.val < 528
  · refine (canon_skip2 (m := 544) (n := 512) 528 0 inb_S544x512_S16x512_528_0 _ _ y c (by omega)).trans ?_
    exact stores2_at W x3 x4 x5 y c h
  · refine (canon_hit2 (m := 544) (n := 512) 528 0 inb_S544x512_S16x512_528_0 _ _ y c ⟨y.val - 528, by omega⟩ c
      (by show 528 + (y.val - 528) = y.val; omega) (Nat.zero_add _)).trans ?_
    refine (pay40_at W x5 ⟨y.val - 528, by omega⟩ c).trans ?_
    unfold ub; rw [dif_neg (by omega), dif_neg h, dif_pos y.isLt]

/-- A load of a block after stores `L`. -/
def loadOf {a b : ℕ} (L : List (View.Piece (Elt Ideal) S544x512 .bf16)) (o0 o1 : ℕ)
    (inb : ∀ x, (![o0, o1] : Fin 2 → ℕ) x + (![a, b] : Fin 2 → ℕ) x ≤ S544x512.size x) : Vec Ideal ⟨2, ![a, b]⟩ .bf16 :=
  fun j => View.canon L ((Rect.unit (s := S544x512) ![o0, o1] ![a, b] inb).toLoadRect.idx j)

theorem load2_at {a b : ℕ} (o0 o1 : ℕ) (inb : ∀ x, (![o0, o1] : Fin 2 → ℕ) x + (![a, b] : Fin 2 → ℕ) x ≤ S544x512.size x)
    (hr : o0 + a ≤ 528) (r : Fin a) (q : Fin b) (h1 : o1 + q.val < 512) :
    loadOf (stores2 W x3 x4) o0 o1 inb (ix2 r q) = ub W x3 x4 x5 (o0 + r.val) ⟨o1 + q.val, h1⟩ := by
  have h0 : o0 + r.val < 544 := by omega
  refine Eq.trans ?_ (stores2_at W x3 x4 x5 ⟨o0 + r.val, h0⟩ ⟨o1 + q.val, h1⟩ (by show o0 + r.val < 528; omega))
  exact congrArg (View.canon (stores2 W x3 x4)) (emb_unit2 (m := 544) (n := 512) o0 o1 inb r q h0 h1)

theorem load3_at {a b : ℕ} (o0 o1 : ℕ) (inb : ∀ x, (![o0, o1] : Fin 2 → ℕ) x + (![a, b] : Fin 2 → ℕ) x ≤ S544x512.size x)
    (r : Fin a) (q : Fin b) (h0 : o0 + r.val < 544) (h1 : o1 + q.val < 512) :
    loadOf (stores3 W x3 x4 x5) o0 o1 inb (ix2 r q) = ub W x3 x4 x5 (o0 + r.val) ⟨o1 + q.val, h1⟩ := by
  refine Eq.trans ?_ (stores3_at W x3 x4 x5 ⟨o0 + r.val, h0⟩ ⟨o1 + q.val, h1⟩)
  exact congrArg (View.canon (stores3 W x3 x4 x5)) (emb_unit2 (m := 544) (n := 512) o0 o1 inb r q h0 h1)

end Cert.Outffn
-- ==== Proof.Outffn.Pieces.lean ====
module

public import proofs.«01_k».proof.Proof.Outffn.Ubuf

@[expose] public section

/-! # The mixed rows a tile leaves in the scratch

A tile's 512 mixed rows are stored in 128-column blocks: four gated heads on the left half, and on
the right half, level by level, four products of a band matrix with 160 rows of the pooling buffer.
Here each stored block is read at its place. -/

noncomputable section
open Idealize.ShloMosaic Idealize.ShloMosaic.TcCoe Idealize.SL.Sem

namespace Cert.Outffn
open Cert.KernelIdeal Cert.KernelIdeal.Gen

/-- One gated entry of a normalised head row. -/
def gated (row : Fin 128 → EReal) (o g : EReal) (e : Fin 128) : EReal := Ideal.logistic o * (rms headLen row e * g)

theorem pay31_at (a : Vec Ideal S1x1x512x128 .bf16) (b : Vec Ideal S1x128 .f32) (c : Vec Ideal S1x512x128 .bf16)
    (r : Fin 512) (q : Fin 128) :
    k0_pay31 (F := Ideal) a b c (ix2 r q) = gated (fun e => a (ix4 0 0 r e)) (c (ix3 0 r q)) (b (ix2 0 q)) q := by
  unfold k0_pay31 gated rms headLen
  pointwise

/-! The product's four column blocks. -/

theorem pay42_at (a b c d : Vec Ideal S160x128 .bf16) (m : Vec Ideal S1x128x160 .bf16) (r q : Fin 128) :
    k0_pay42 (F := Ideal) a b c d m (ix2 r q) = ∑ x : Fin 160, (m (ix3 0 r x) : EReal) * a (ix2 x q) := by
  unfold k0_pay42 k0_pay41
  pointwise

theorem pay44_at (a b c d : Vec Ideal S160x128 .bf16) (m : Vec Ideal S1x128x160 .bf16) (r q : Fin 128) :
    k0_pay44 (F := Ideal) (k0_pay43 (F := Ideal) a b c d m) (ix2 r q) = ∑ x : Fin 160, (m (ix3 0 r x) : EReal) * b (ix2 x q) := by
  unfold k0_pay44 k0_pay43 k0_pay41
  pointwise

theorem pay45_at (a b c d : Vec Ideal S160x128 .bf16) (m : Vec Ideal S1x128x160 .bf16) (r q : Fin 128) :
    k0_pay45 (F := Ideal) (k0_pay41 (F := Ideal) a b c d m) (ix2 r q) = ∑ x : Fin 160, (m (ix3 0 r x) : EReal) * c (ix2 x q) := by
  unfold k0_pay45 k0_pay41
  pointwise
  refine Finset.sum_congr rfl fun x _ => ?_
  rw [dif_neg (by omega), dif_neg (by omega), dif_pos (by omega)]
  exact congrArg (fun z => (m (ix3 0 r x) : EReal) * c (ix2 x z)) (Fin.ext (by show 256 + q.val - 128 - 128 = q.val; omega))

theorem pay46_at (a b c d : Vec Ideal S160x128 .bf16) (m : Vec Ideal S1x128x160 .bf16) (r q : Fin 128) :
    k0_pay46 (F := Ideal) (k0_pay41 (F := Ideal) a b c d m) (ix2 r q) = ∑ x : Fin 160, (m (ix3 0 r x) : EReal) * d (ix2 x q) := by
  unfold k0_pay46 k0_pay41
  pointwise
  refine Finset.sum_congr rfl fun x _ => ?_
  rw [dif_neg (by omega), dif_neg (by omega), dif_neg (by omega)]
  exact congrArg (fun z => (m (ix3 0 r x) : EReal) * d (ix2 x z)) (Fin.ext (by show 384 + q.val - 128 - 128 - 128 = q.val; omega))

section
variable (W : BitVec 32) (x1 : Vec Ideal S1x4x512x128 .bf16) (x2 x3 : Vec Ideal S1x512x512 .bf16)
  (x4 x5 : Vec Ideal S1x16x512 .bf16) (x7 : Vec Ideal S1x512 .f32) (x10 : Vec Ideal S4x128x160 .bf16)

theorem head_inb (h : ℕ) (hh : h < 4) (x : Fin 2) :
    (![0, 128 * h] : Fin 2 → ℕ) x + (![512, 128] : Fin 2 → ℕ) x ≤ S512x1024.size x :=
  (Fin.forall_fin_two.2 ⟨(by decide : 0 + 512 ≤ 512), (by omega : 128 * h + 128 ≤ 1024)⟩ :
    ∀ x : Fin 2, (![0, 128 * h] : Fin 2 → ℕ) x + (![512, 128] : Fin 2 → ℕ) x ≤ S512x1024.size x) x

theorem pool_inb (a k : ℕ) (ha : a < 4) (hk : k < 4) (x : Fin 2) :
    (![128 * a, 512 + 128 * k] : Fin 2 → ℕ) x + (![128, 128] : Fin 2 → ℕ) x ≤ S512x1024.size x :=
  (Fin.forall_fin_two.2 ⟨(by omega : 128 * a + 128 ≤ 512), (by omega : 512 + 128 * k + 128 ≤ 1024)⟩ :
    ∀ x : Fin 2, (![128 * a, 512 + 128 * k] : Fin 2 → ℕ) x + (![128, 128] : Fin 2 → ℕ) x ≤ S512x1024.size x) x

theorem head_inb1 (h : ℕ) (hh : h < 4) (x : Fin 4) :
    (![0, h, 0, 0] : Fin 4 → ℕ) x + (![1, 1, 512, 128] : Fin 4 → ℕ) x ≤ S1x4x512x128.size x := by
  match x with
  | ⟨0, _⟩ => exact (by decide : 0 + 1 ≤ 1)
  | ⟨1, _⟩ => exact (by omega : h + 1 ≤ 4)
  | ⟨2, _⟩ => exact (by decide : 0 + 512 ≤ 512)
  | ⟨3, _⟩ => exact (by decide : 0 + 128 ≤ 128)

theorem head_inb2 (h : ℕ) (hh : h < 4) (x : Fin 3) :
    (![0, 0, 128 * h] : Fin 3 → ℕ) x + (![1, 512, 128] : Fin 3 → ℕ) x ≤ S1x512x512.size x := by
  match x with
  | ⟨0, _⟩ => exact (by decide : 0 + 1 ≤ 1)
  | ⟨1, _⟩ => exact (by decide : 0 + 512 ≤ 512)
  | ⟨2, _⟩ => exact (by omega : 128 * h + 128 ≤ 512)

theorem head_inb7 (h : ℕ) (hh : h < 4) (x : Fin 2) :
    (![0, 128 * h] : Fin 2 → ℕ) x + (![1, 128] : Fin 2 → ℕ) x ≤ S1x512.size x :=
  (Fin.forall_fin_two.2 ⟨(by decide : 0 + 1 ≤ 1), (by omega : 128 * h + 128 ≤ 512)⟩ :
    ∀ x : Fin 2, (![0, 128 * h] : Fin 2 → ℕ) x + (![1, 128] : Fin 2 → ℕ) x ≤ S1x512.size x) x

/-- Head `h`'s stored block. -/
def headPiece (h : ℕ) (hh : h < 4) : View.Piece (Elt Ideal) S512x1024 .bf16 :=
  ⟨Rect.unit ![0, 128 * h] ![512, 128] (head_inb h hh),
    k0_pay31 (F := Ideal)
      (View.ld x1 (Rect.unit ![0, h, 0, 0] ![1, 1, 512, 128]
        (head_inb1 h hh)))
      (View.ld x7 (Rect.unit ![0, 128 * h] ![1, 128] (head_inb7 h hh)))
      (View.ld x2 (Rect.unit ![0, 0, 128 * h] ![1, 512, 128]
        (head_inb2 h hh)))⟩

/-- The rows of level `k`'s channels that block `a` of a product reads. -/
abbrev rowsOf (L : List (View.Piece (Elt Ideal) S544x512 .bf16)) (a k : ℕ) (ha : a < 4) (hk : k < 4) : Vec Ideal S160x128 .bf16 :=
  loadOf (a := 160) (b := 128) L (128 * a) (128 * k)
    (Fin.forall_fin_two.2 ⟨(by omega : 128 * a + 160 ≤ 544), (by omega : 128 * k + 128 ≤ 512)⟩)

/-- Level `k`'s band matrix. -/
abbrev bandOf (k : ℕ) (hk : k < 4) : Vec Ideal S1x128x160 .bf16 :=
  View.ld x10 (Rect.unit ![k, 0, 0] ![1, 128, 160]
    (by intro a; match a with
      | ⟨0, _⟩ => exact (by omega : k + 1 ≤ 4)
      | ⟨1, _⟩ => exact (by decide : 0 + 128 ≤ 128)
      | ⟨2, _⟩ => exact (by decide : 0 + 160 ≤ 160)))

/-- Where block `a` of level `k` is stored. -/
abbrev poolRect (a k : ℕ) (ha : a < 4) (hk : k < 4) : Rect S512x1024 :=
  Rect.unit ![128 * a, 512 + 128 * k] ![128, 128] (pool_inb a k ha hk)

/-- Level `k`'s stored blocks, the last first. -/
def poolPieces (k : ℕ) (hk : k < 4) : List (View.Piece (Elt Ideal) S512x1024 .bf16) :=
  let a := rowsOf (stores2 W x3 x4) 0 k (by decide) hk
  let b := rowsOf (stores2 W x3 x4) 1 k (by decide) hk
  let c := rowsOf (stores2 W x3 x4) 2 k (by decide) hk
  let d := rowsOf (stores3 W x3 x4 x5) 3 k (by decide) hk
  let m := bandOf x10 k hk
  [⟨poolRect 3 k (by decide) hk, k0_pay46 (F := Ideal) (k0_pay41 (F := Ideal) a b c d m)⟩,
    ⟨poolRect 2 k (by decide) hk, k0_pay45 (F := Ideal) (k0_pay41 (F := Ideal) a b c d m)⟩,
    ⟨poolRect 1 k (by decide) hk, k0_pay44 (F := Ideal) (k0_pay43 (F := Ideal) a b c d m)⟩,
    ⟨poolRect 0 k (by decide) hk, k0_pay42 (F := Ideal) a b c d m⟩]

/-- Every block but those of the two ends. -/
def plainPieces : List (View.Piece (Elt Ideal) S512x1024 .bf16) :=
  poolPieces W x3 x4 x5 x10 3 (by decide) ++ (poolPieces W x3 x4 x5 x10 2 (by decide) ++
    (poolPieces W x3 x4 x5 x10 1 (by decide) ++ (poolPieces W x3 x4 x5 x10 0 (by decide) ++
      [headPiece x1 x2 x7 3 (by decide), headPiece x1 x2 x7 2 (by decide), headPiece x1 x2 x7 1 (by decide),
        headPiece x1 x2 x7 0 (by decide)])))

/-- The left half: the gated heads. -/
def headAt (r : Fin 512) (c : ℕ) (hc : c < 512) : EReal :=
  gated (fun e => x1 (ix4 0 ⟨c / 128, by omega⟩ r e)) (x2 (ix3 0 r ⟨c, hc⟩)) (x7 (ix2 0 ⟨c, hc⟩)) ⟨c % 128, by omega⟩

/-- The right half: the band products. -/
def poolAt (r : Fin 512) (c : ℕ) (hc : c < 512) : EReal :=
  ∑ x : Fin 160, (x10 (ix3 ⟨c / 128, by omega⟩ ⟨r.val % 128, by omega⟩ x) : EReal) *
    ub W x3 x4 x5 (128 * (r.val / 128) + x.val) ⟨c, hc⟩

/-- Both halves. -/
def plainAt (i : S512x1024.Idx) : Elt Ideal .bf16 :=
  if h : (i 1).val < 512 then headAt x1 x2 x7 (i 0) (i 1).val h
  else poolAt W x3 x4 x5 x10 (i 0) ((i 1).val - 512) (by have h1 : (i 1).val < 1024 := (i 1).isLt; omega)

theorem headPiece_at (h : ℕ) (hh : h < 4) (i : (headPiece x1 x2 x7 h hh).1.shape.Idx) :
    (headPiece x1 x2 x7 h hh).2 i = plainAt W x1 x2 x3 x4 x5 x7 x10 ((headPiece x1 x2 x7 h hh).1.emb i) := by
  change (⟨2, ![512, 128]⟩ : Shape).Idx at i
  obtain ⟨r, q, rfl⟩ : ∃ (r : Fin 512) (q : Fin 128), i = ix2 r q := ⟨i 0, i 1, by funext a; match a with | ⟨0, _⟩ => rfl | ⟨1, _⟩ => rfl⟩
  have e : (headPiece x1 x2 x7 h hh).1.emb (ix2 r q) = ix2 (⟨0 + r.val, by omega⟩ : Fin 512) (⟨128 * h + q.val, by omega⟩ : Fin 1024) :=
    emb_unit2 (m := 512) (n := 1024) 0 (128 * h) (head_inb h hh) r q _ _
  rw [e]
  have hc : 128 * h + q.val < 512 := by omega
  refine Eq.trans (pay31_at _ _ _ r q) ?_
  refine Eq.trans ?_ (dif_pos (c := (128 * h + q.val) < 512) hc).symm
  show _ = gated (fun e => x1 (ix4 0 (⟨(128 * h + q.val) / 128, (by omega : (128 * h + q.val) / 128 < 4)⟩ : Fin 4) (⟨0 + r.val, by omega⟩ : Fin 512) e))
    (x2 (ix3 0 (⟨0 + r.val, by omega⟩ : Fin 512) ⟨128 * h + q.val, hc⟩)) (x7 (ix2 0 ⟨128 * h + q.val, hc⟩))
    ⟨(128 * h + q.val) % 128, by omega⟩
  have hr : (⟨0 + r.val, by omega⟩ : Fin 512) = r := Fin.ext (Nat.zero_add _)
  have hd : (⟨(128 * h + q.val) / 128, (by omega : (128 * h + q.val) / 128 < 4)⟩ : Fin 4) = ⟨h, hh⟩ := Fin.ext (by show (128 * h + q.val) / 128 = h; omega)
  have hm : (⟨(128 * h + q.val) % 128, by omega⟩ : Fin 128) = q := Fin.ext (by show (128 * h + q.val) % 128 = q; omega)
  rw [hr, hd, hm]
  have l1 : ∀ e, View.ld x1 (Rect.unit ![0, h, 0, 0] ![1, 1, 512, 128] (head_inb1 h hh)) (ix4 0 0 r e) = x1 (ix4 0 ⟨h, hh⟩ r e) := fun e =>
    congrArg x1 (funext fun a => Fin.ext (by
      refine (ValueKit.rect_emb_unit_val _ _ _ _ _).trans ?_
      match a with
      | ⟨0, _⟩ => rfl
      | ⟨1, _⟩ => rfl
      | ⟨2, _⟩ => exact Nat.zero_add _
      | ⟨3, _⟩ => exact Nat.zero_add _))
  have l2 : View.ld x2 (Rect.unit ![0, 0, 128 * h] ![1, 512, 128] (head_inb2 h hh)) (ix3 0 r q) = x2 (ix3 0 r ⟨128 * h + q.val, hc⟩) :=
    congrArg x2 (funext fun a => Fin.ext (by
      refine (ValueKit.rect_emb_unit_val _ _ _ _ _).trans ?_
      match a with
      | ⟨0, _⟩ => rfl
      | ⟨1, _⟩ => exact Nat.zero_add _
      | ⟨2, _⟩ => rfl))
  have l7 : View.ld x7 (Rect.unit ![0, 128 * h] ![1, 128] (head_inb7 h hh)) (ix2 0 q) = x7 (ix2 0 ⟨128 * h + q.val, hc⟩) :=
    congrArg x7 (emb_unit2 (m := 1) (n := 512) 0 (128 * h) (head_inb7 h hh) 0 q _ _)
  rw [l2, l7]
  exact congrArg (fun R => gated R _ _ q) (funext l1)

theorem poolPiece_at (a k : ℕ) (ha : a < 4) (hk : k < 4) (w : Vec Ideal S128x128 .bf16) (l : Vec Ideal S160x128 .bf16)
    (hw : ∀ r q : Fin 128, w (ix2 r q) = ∑ x : Fin 160, (bandOf x10 k hk (ix3 0 r x) : EReal) * l (ix2 x q))
    (hl : ∀ (x : Fin 160) (q : Fin 128), l (ix2 x q) = ub W x3 x4 x5 (128 * a + x.val) ⟨128 * k + q.val, by omega⟩)
    (i : (poolRect a k ha hk).shape.Idx) :
    w i = plainAt W x1 x2 x3 x4 x5 x7 x10 ((poolRect a k ha hk).emb i) := by
  change (⟨2, ![128, 128]⟩ : Shape).Idx at i
  obtain ⟨r, q, rfl⟩ : ∃ (r q : Fin 128), i = ix2 r q := ⟨i 0, i 1, by funext a; match a with | ⟨0, _⟩ => rfl | ⟨1, _⟩ => rfl⟩
  have e : (poolRect a k ha hk).emb (ix2 r q) = ix2 (⟨128 * a + r.val, by omega⟩ : Fin 512) (⟨512 + 128 * k + q.val, by omega⟩ : Fin 1024) :=
    emb_unit2 (m := 512) (n := 1024) (128 * a) (512 + 128 * k) (pool_inb a k ha hk) r q _ _
  rw [e, hw]
  have hc : ¬ (512 + 128 * k + q.val) < 512 := by omega
  refine Eq.trans ?_ (dif_neg (c := (512 + 128 * k + q.val) < 512) hc).symm
  show _ = poolAt W x3 x4 x5 x10 ⟨128 * a + r.val, by omega⟩ (512 + 128 * k + q.val - 512) (by omega)
  unfold poolAt
  refine Finset.sum_congr rfl fun x _ => ?_
  have l : bandOf x10 k hk (ix3 0 r x) = x10 (ix3 ⟨(512 + 128 * k + q.val - 512) / 128, by omega⟩ ⟨(128 * a + r.val) % 128, by omega⟩ x) :=
    congrArg x10 (funext fun b => Fin.ext (by
      refine (ValueKit.rect_emb_unit_val _ _ _ _ _).trans ?_
      match b with
      | ⟨0, _⟩ => exact (by omega : k + 0 = (512 + 128 * k + q.val - 512) / 128)
      | ⟨1, _⟩ => exact (by omega : 0 + r.val = (128 * a + r.val) % 128)
      | ⟨2, _⟩ => exact Nat.zero_add _))
  rw [l, hl]
  have e1 : 128 * ((128 * a + r.val) / 128) + x.val = 128 * a + x.val := by omega
  have e2 : (⟨512 + 128 * k + q.val - 512, by omega⟩ : Fin 512) = ⟨128 * k + q.val, by omega⟩ :=
    Fin.ext (by show 512 + 128 * k + q.val - 512 = 128 * k + q.val; omega)
  rw [e1, e2]

theorem poolPieces_at (k : ℕ) (hk : k < 4) : ∀ p ∈ poolPieces W x3 x4 x5 x10 k hk, ∀ i : p.1.shape.Idx,
    p.2 i = plainAt W x1 x2 x3 x4 x5 x7 x10 (p.1.emb i) := by
  intro p hp
  simp only [poolPieces, List.mem_cons, List.not_mem_nil, or_false] at hp
  rcases hp with rfl | rfl | rfl | rfl
  · exact poolPiece_at W x1 x2 x3 x4 x5 x7 x10 3 k (by decide) hk _ _ (pay46_at _ _ _ _ _) fun x q =>
      load3_at W x3 x4 x5 (128 * 3) (128 * k) _ x q (by omega) (by omega)
  · exact poolPiece_at W x1 x2 x3 x4 x5 x7 x10 2 k (by decide) hk _ _ (pay45_at _ _ _ _ _) fun x q =>
      load2_at W x3 x4 x5 (128 * 2) (128 * k) _ (by decide) x q (by omega)
  · exact poolPiece_at W x1 x2 x3 x4 x5 x7 x10 1 k (by decide) hk _ _ (pay44_at _ _ _ _ _) fun x q =>
      load2_at W x3 x4 x5 (128 * 1) (128 * k) _ (by decide) x q (by omega)
  · exact poolPiece_at W x1 x2 x3 x4 x5 x7 x10 0 k (by decide) hk _ _ (pay42_at _ _ _ _ _) fun x q =>
      load2_at W x3 x4 x5 (128 * 0) (128 * k) _ (by decide) x q (by omega)

theorem pool_cover (k : ℕ) (hk : k < 4) (r : Fin 512) (c : Fin 1024) (h0 : 512 + 128 * k ≤ c.val) (h1 : c.val < 512 + 128 * k + 128) :
    ∃ p ∈ poolPieces W x3 x4 x5 x10 k hk, ix2 r c ∈ p.1.set := by
  have key : ∀ (a : ℕ) (ha : a < 4), 128 * a ≤ r.val → r.val < 128 * a + 128 → ix2 r c ∈ (poolRect a k ha hk).set := fun a ha h2 h3 =>
    (mem_unit2 (m := 512) (n := 1024) (128 * a) (512 + 128 * k) (pool_inb a k ha hk) r c).2 ⟨⟨h2, h3⟩, h0, h1⟩
  unfold poolPieces
  rcases (by omega : r.val / 128 = 0 ∨ r.val / 128 = 1 ∨ r.val / 128 = 2 ∨ r.val / 128 = 3) with e | e | e | e
  · exact ⟨_, List.mem_cons_of_mem _ (List.mem_cons_of_mem _ (List.mem_cons_of_mem _ List.mem_cons_self)), key 0 (by decide) (by omega) (by omega)⟩
  · exact ⟨_, List.mem_cons_of_mem _ (List.mem_cons_of_mem _ List.mem_cons_self), key 1 (by decide) (by omega) (by omega)⟩
  · exact ⟨_, List.mem_cons_of_mem _ List.mem_cons_self, key 2 (by decide) (by omega) (by omega)⟩
  · exact ⟨_, List.mem_cons_self, key 3 (by decide) (by omega) (by omega)⟩

theorem head_cover (h : ℕ) (hh : h < 4) (r : Fin 512) (c : Fin 1024) (h0 : 128 * h ≤ c.val) (h1 : c.val < 128 * h + 128) :
    ix2 r c ∈ (headPiece x1 x2 x7 h hh).1.set :=
  (mem_unit2 (m := 512) (n := 1024) 0 (128 * h) (head_inb h hh) r c).2 ⟨⟨Nat.zero_le _, by omega⟩, h0, h1⟩

theorem plain_cover (r : Fin 512) (c : Fin 1024) : ∃ p ∈ plainPieces W x1 x2 x3 x4 x5 x7 x10, ix2 r c ∈ p.1.set := by
  unfold plainPieces
  have fromPool := pool_cover W x3 x4 x5 x10
  have fromHead := head_cover x1 x2 x7
  rcases (by omega : c.val / 128 = 0 ∨ c.val / 128 = 1 ∨ c.val / 128 = 2 ∨ c.val / 128 = 3 ∨ c.val / 128 = 4 ∨ c.val / 128 = 5 ∨
    c.val / 128 = 6 ∨ c.val / 128 = 7) with e | e | e | e | e | e | e | e
  · exact ⟨_, by simp, fromHead 0 (by decide) r c (by omega) (by omega)⟩
  · exact ⟨_, by simp, fromHead 1 (by decide) r c (by omega) (by omega)⟩
  · exact ⟨_, by simp, fromHead 2 (by decide) r c (by omega) (by omega)⟩
  · exact ⟨_, by simp, fromHead 3 (by decide) r c (by omega) (by omega)⟩
  · obtain ⟨p, hp, hm⟩ := fromPool 0 (by decide) r c (by omega) (by omega); exact ⟨p, by simp [hp], hm⟩
  · obtain ⟨p, hp, hm⟩ := fromPool 1 (by decide) r c (by omega) (by omega); exact ⟨p, by simp [hp], hm⟩
  · obtain ⟨p, hp, hm⟩ := fromPool 2 (by decide) r c (by omega) (by omega); exact ⟨p, by simp [hp], hm⟩
  · obtain ⟨p, hp, hm⟩ := fromPool 3 (by decide) r c (by omega) (by omega); exact ⟨p, by simp [hp], hm⟩

/-- The blocks read back. -/
theorem plain_at (r : Fin 512) (c : Fin 1024) :
    View.canon (plainPieces W x1 x2 x3 x4 x5 x7 x10) (ix2 r c) = plainAt W x1 x2 x3 x4 x5 x7 x10 (ix2 r c) := by
  refine View.canon_apply_of_pieces _ _ (fun p hp => ?_) _ (plain_cover W x1 x2 x3 x4 x5 x7 x10 r c)
  simp only [plainPieces, List.mem_append, List.mem_cons, List.not_mem_nil, or_false] at hp
  rcases hp with hp | hp | hp | hp | rfl | rfl | rfl | rfl
  · exact poolPieces_at W x1 x2 x3 x4 x5 x7 x10 3 (by decide) p hp
  · exact poolPieces_at W x1 x2 x3 x4 x5 x7 x10 2 (by decide) p hp
  · exact poolPieces_at W x1 x2 x3 x4 x5 x7 x10 1 (by decide) p hp
  · exact poolPieces_at W x1 x2 x3 x4 x5 x7 x10 0 (by decide) p hp
  · exact headPiece_at W x1 x2 x3 x4 x5 x7 x10 3 (by decide)
  · exact headPiece_at W x1 x2 x3 x4 x5 x7 x10 2 (by decide)
  · exact headPiece_at W x1 x2 x3 x4 x5 x7 x10 1 (by decide)
  · exact headPiece_at W x1 x2 x3 x4 x5 x7 x10 0 (by decide)

end
end Cert.Outffn
-- ==== Proof.Outffn.Edge.lean ====
module

public import proofs.«01_k».proof.Proof.Outffn.Pieces

@[expose] public section

/-! # The rows at the two ends of the sequence

The band matrices divide by a full window.  In the first sixteen and the last sixteen rows of a
sequence a window is cut short, and the kernel stores those rows again: the window's sum over the
number of rows it really has, less the row itself.  `edgeAt` is that entry, read from 48 rows. -/

noncomputable section
open Idealize.ShloMosaic Idealize.ShloMosaic.TcCoe Idealize.SL.Sem

namespace Cert.Outffn
open Cert.KernelIdeal Cert.KernelIdeal.Gen

/-- The row's place in the sequence, as the kernel counts it. -/
def place (W o : BitVec 32) (r : Fin 16) : BitVec 32 :=
  IntOp.addi (Scalar.addi (Scalar.muli W 512#32) o) (BitVec.ofNat 32 r.val)

/-- How many rows the window really has. -/
def count (W o h : BitVec 32) (r : Fin 16) : BitVec 32 :=
  IntOp.subi (IntOp.minsi (IntOp.addi (place W o r) h) 4096#32) (IntOp.maxsi (IntOp.subi (place W o r) h) 0#32)

/-- One entry of an end row at half width `hw`, from the 48 rows `f`. -/
def edgeAt (f : ℕ → Fin 512 → EReal) (W o : BitVec 32) (hw : ℕ) (r : Fin 16) (c : Fin 512) : EReal :=
  Ideal.div (∑ j ∈ Finset.range (2 * hw), f (16 - hw + j + r.val) c)
    (FloatOps.sitofp (F := Ideal) FTy.f32 (count W o (BitVec.ofNat 32 hw) r)) - f (16 + r.val) c

section
variable (W : BitVec 32) (v : Vec Ideal S48x512 .bf16) (f : ℕ → Fin 512 → EReal)
  (hv : ∀ (y : Fin 48) (c : Fin 512), v (ix2 y c) = f y.val c) (r : Fin 16) (q : Fin 128)
include hv

theorem top0_at : k0_pay11 (F := Ideal) W v (ix2 r q) = edgeAt f W 0#32 1 r ⟨0 + q.val, by omega⟩ := by
  unfold edgeAt count place k0_pay11 k0_pay9 k0_pay10
  pointwise
  simp only [hv, Finset.sum_range_succ, Finset.sum_range_zero, zero_add]

theorem top1_at : k0_pay15 (F := Ideal) (k0_pay12 v) (k0_pay13 v) (k0_pay14 W) (ix2 r q) = edgeAt f W 0#32 2 r ⟨128 + q.val, by omega⟩ := by
  unfold edgeAt count place k0_pay15 k0_pay14 k0_pay13 k0_pay12 k0_pay9 k0_pay10
  pointwise
  simp only [hv, Finset.sum_range_succ, Finset.sum_range_zero, zero_add]

theorem top2_at : k0_pay16 (F := Ideal) (k0_pay9 v) (k0_pay10 W) (ix2 r q) = edgeAt f W 0#32 4 r ⟨256 + q.val, by omega⟩ := by
  unfold edgeAt count place k0_pay16 k0_pay9 k0_pay10
  pointwise
  simp only [hv, Finset.sum_range_succ, Finset.sum_range_zero, zero_add]

theorem top3_at : k0_pay63 (F := Ideal) (k0_pay10 W) (k0_pay17 (k0_pay9 v)) (k0_pay18 (k0_pay9 v)) (k0_pay19 (k0_pay9 v)) (ix2 r q) = edgeAt f W 0#32 8 r ⟨384 + q.val, by omega⟩ := by
  unfold edgeAt count place k0_pay63 k0_pay19 k0_pay18 k0_pay17 k0_pay9 k0_pay10
  pointwise
  simp only [hv, Finset.sum_range_succ, Finset.sum_range_zero, zero_add]

theorem bottom0_at : k0_pay77 (F := Ideal) W v (ix2 r q) = edgeAt f W 496#32 1 r ⟨0 + q.val, by omega⟩ := by
  unfold edgeAt count place k0_pay77 k0_pay75 k0_pay76
  pointwise
  simp only [hv, Finset.sum_range_succ, Finset.sum_range_zero, zero_add]

theorem bottom1_at : k0_pay81 (F := Ideal) (k0_pay78 v) (k0_pay79 v) (k0_pay80 W) (ix2 r q) = edgeAt f W 496#32 2 r ⟨128 + q.val, by omega⟩ := by
  unfold edgeAt count place k0_pay81 k0_pay80 k0_pay79 k0_pay78 k0_pay75 k0_pay76
  pointwise
  simp only [hv, Finset.sum_range_succ, Finset.sum_range_zero, zero_add]

theorem bottom2_at : k0_pay82 (F := Ideal) (k0_pay75 v) (k0_pay76 W) (ix2 r q) = edgeAt f W 496#32 4 r ⟨256 + q.val, by omega⟩ := by
  unfold edgeAt count place k0_pay82 k0_pay75 k0_pay76
  pointwise
  simp only [hv, Finset.sum_range_succ, Finset.sum_range_zero, zero_add]

theorem bottom3_at : k0_pay8 (F := Ideal) (k0_pay76 W) (k0_pay83 (k0_pay75 v)) (k0_pay84 (k0_pay75 v)) (k0_pay85 (k0_pay75 v)) (ix2 r q) = edgeAt f W 496#32 8 r ⟨384 + q.val, by omega⟩ := by
  unfold edgeAt count place k0_pay8 k0_pay85 k0_pay84 k0_pay83 k0_pay75 k0_pay76
  pointwise
  simp only [hv, Finset.sum_range_succ, Finset.sum_range_zero, zero_add]

end

section
variable (W : BitVec 32) (x3 : Vec Ideal S1x512x512 .bf16) (x4 x5 : Vec Ideal S1x16x512 .bf16)

/-- The sequence's first sixteen rows, level by level, the last first. -/
def topPieces : List (View.Piece (Elt Ideal) S512x1024 .bf16) :=
  let v : Vec Ideal S48x512 .bf16 := loadOf (a := 48) (b := 512) (stores2 W x3 x4) 0 0 inb_S544x512_S48x512_0_0
  [⟨Rect.unit ![0, 896] ![16, 128] inb_S512x1024_S16x128_0_896, k0_pay63 (F := Ideal) (k0_pay10 W) (k0_pay17 (k0_pay9 v)) (k0_pay18 (k0_pay9 v)) (k0_pay19 (k0_pay9 v))⟩,
    ⟨Rect.unit ![0, 768] ![16, 128] inb_S512x1024_S16x128_0_768, k0_pay16 (F := Ideal) (k0_pay9 v) (k0_pay10 W)⟩,
    ⟨Rect.unit ![0, 640] ![16, 128] inb_S512x1024_S16x128_0_640, k0_pay15 (F := Ideal) (k0_pay12 v) (k0_pay13 v) (k0_pay14 W)⟩,
    ⟨Rect.unit ![0, 512] ![16, 128] inb_S512x1024_S16x128_0_512, k0_pay11 (F := Ideal) W v⟩]

/-- The sequence's last sixteen rows. -/
def bottomPieces : List (View.Piece (Elt Ideal) S512x1024 .bf16) :=
  let v : Vec Ideal S48x512 .bf16 := loadOf (a := 48) (b := 512) (stores3 W x3 x4 x5) 496 0 inb_S544x512_S48x512_496_0
  [⟨Rect.unit ![496, 896] ![16, 128] inb_S512x1024_S16x128_496_896, k0_pay8 (F := Ideal) (k0_pay76 W) (k0_pay83 (k0_pay75 v)) (k0_pay84 (k0_pay75 v)) (k0_pay85 (k0_pay75 v))⟩,
    ⟨Rect.unit ![496, 768] ![16, 128] inb_S512x1024_S16x128_496_768, k0_pay82 (F := Ideal) (k0_pay75 v) (k0_pay76 W)⟩,
    ⟨Rect.unit ![496, 640] ![16, 128] inb_S512x1024_S16x128_496_640, k0_pay81 (F := Ideal) (k0_pay78 v) (k0_pay79 v) (k0_pay80 W)⟩,
    ⟨Rect.unit ![496, 512] ![16, 128] inb_S512x1024_S16x128_496_512, k0_pay77 (F := Ideal) W v⟩]

end
end Cert.Outffn
-- ==== Proof.Outffn.MixedA.lean ====
module

public import proofs.«01_k».proof.Proof.Outffn.Edge

@[expose] public section

/-! # The mixed rows at the first point -/

noncomputable section
open Idealize.ShloMosaic Idealize.ShloMosaic.TcCoe Idealize.SL.Sem

namespace Cert.Outffn
open Cert.KernelIdeal Cert.KernelIdeal.Gen

/-- The tile within its sequence that grid point `n` mixes: `n mod 8`, as the kernel works it out. -/
def tileWord (n : ℕ) : BitVec 32 :=
  let z : BitVec 32 := Scalar.select (Scalar.cmpi CmpIPredicate.eq 8#32 0#32) 1#32 8#32
  let rem : BitVec 32 := Scalar.remsi (BitVec.ofNat 32 n) z
  Scalar.select (Scalar.andi (Scalar.xori (Scalar.cmpi CmpIPredicate.slt rem 0#32) (Scalar.cmpi CmpIPredicate.slt z 0#32))
    (Scalar.cmpi CmpIPredicate.ne rem 0#32)) (Scalar.addi rem z) rem

theorem tileWord_eq : ∀ n : Fin 65, tileWord n.val = BitVec.ofNat 32 (n.val % 8) := by decide +kernel

/-- The mixed rows at the first tile. -/
theorem mixed_A (c : Dev nD) (i : grid0.Coords) (arg1 : Memref sig .tc .vmem S1x512x1024 .f32) (harg1 : arg1.IsWhole) (arg2 : Memref sig .tc .vmem S1x4x512x128 .bf16) (harg2 : arg2.IsWhole) (arg3 : Memref sig .tc .vmem S1x512x512 .bf16) (harg3 : arg3.IsWhole) (arg4 : Memref sig .tc .vmem S1x512x512 .bf16) (harg4 : arg4.IsWhole) (arg5 : Memref sig .tc .vmem S1x16x512 .bf16) (harg5 : arg5.IsWhole) (arg6 : Memref sig .tc .vmem S1x16x512 .bf16) (harg6 : arg6.IsWhole) (arg7 : Memref sig .tc .vmem S1x6x1024 .f32) (harg7 : arg7.IsWhole) (arg8 : Memref sig .tc .vmem S1x512 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S4x128x160 .bf16) (harg11 : arg11.IsWhole) (arg12 : Memref sig .tc .vmem S1024x1024 .bf16) (harg12 : arg12.IsWhole) (arg13 : Memref sig .tc .vmem S512x1024 .bf16) (harg13 : arg13.IsWhole) (arg14 : Memref sig .tc .vmem S1024x4096 .bf16) (harg14 : arg14.IsWhole) (arg15 : Memref sig .tc .vmem S4096x1024 .bf16) (harg15 : arg15.IsWhole) (arg16 : Memref sig .tc .vmem S1x512x1024 .f32) (harg16 : arg16.IsWhole) (arg17 : Memref sig .tc .vmem S544x512 .bf16) (harg17 : arg17.IsWhole) (arg18 : Memref sig .tc .vmem S512x1024 .bf16) (harg18 : arg18.IsWhole) (hc0 : cond0_0 i) (hc1 : cond0_1 i) (hc2 : ¬cond0_2 i) (hc3 : ¬cond0_3 i)
    (x0 : Vec Ideal S1x512x1024 .f32) (x1 : Vec Ideal S1x4x512x128 .bf16) (x2 : Vec Ideal S1x512x512 .bf16) (x3 : Vec Ideal S1x512x512 .bf16) (x4 : Vec Ideal S1x16x512 .bf16) (x5 : Vec Ideal S1x16x512 .bf16) (x6 : Vec Ideal S1x6x1024 .f32) (x7 : Vec Ideal S1x512 .f32) (x8 : Vec Ideal S1x1024 .f32) (x9 : Vec Ideal S1x1024 .f32) (x10 : Vec Ideal S4x128x160 .bf16) (x11 : Vec Ideal S1024x1024 .bf16) (x12 : Vec Ideal S512x1024 .bf16) (x13 : Vec Ideal S1024x4096 .bf16) (x14 : Vec Ideal S4096x1024 .bf16) :
    sout0_A_1 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 x0 x1 x2 x3 x4 x5 x6 x7 x8 x9 x10 x11 x12 x13 x14
      = View.canon (topPieces (tileWord (i 0)) x3 x4 ++ plainPieces (tileWord (i 0)) x1 x2 x3 x4 x5 x7 x10) := by
  frame_open
  simp (disch := decide) only [↓ View.readCov_skip, ↓ View.readCov_cons_toLoadRect, ↓ View.readCov_fill]
  frame_out
  simp only [View.readCov_eq_canon']
  rfl

end Cert.Outffn
-- ==== Proof.Outffn.Mixed.lean ====
module

public import proofs.«01_k».proof.Proof.Outffn.MixedA

@[expose] public section

/-! # The mixed rows at the later points -/

noncomputable section
open Idealize.ShloMosaic Idealize.ShloMosaic.TcCoe Idealize.SL.Sem

namespace Cert.Outffn
open Cert.KernelIdeal Cert.KernelIdeal.Gen

/-- The mixed rows at an inner tile. -/
theorem mixed_B (c : Dev nD) (i : grid0.Coords) (arg1 : Memref sig .tc .vmem S1x512x1024 .f32) (harg1 : arg1.IsWhole) (arg2 : Memref sig .tc .vmem S1x4x512x128 .bf16) (harg2 : arg2.IsWhole) (arg3 : Memref sig .tc .vmem S1x512x512 .bf16) (harg3 : arg3.IsWhole) (arg4 : Memref sig .tc .vmem S1x512x512 .bf16) (harg4 : arg4.IsWhole) (arg5 : Memref sig .tc .vmem S1x16x512 .bf16) (harg5 : arg5.IsWhole) (arg6 : Memref sig .tc .vmem S1x16x512 .bf16) (harg6 : arg6.IsWhole) (arg7 : Memref sig .tc .vmem S1x6x1024 .f32) (harg7 : arg7.IsWhole) (arg8 : Memref sig .tc .vmem S1x512 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S4x128x160 .bf16) (harg11 : arg11.IsWhole) (arg12 : Memref sig .tc .vmem S1024x1024 .bf16) (harg12 : arg12.IsWhole) (arg13 : Memref sig .tc .vmem S512x1024 .bf16) (harg13 : arg13.IsWhole) (arg14 : Memref sig .tc .vmem S1024x4096 .bf16) (harg14 : arg14.IsWhole) (arg15 : Memref sig .tc .vmem S4096x1024 .bf16) (harg15 : arg15.IsWhole) (arg16 : Memref sig .tc .vmem S1x512x1024 .f32) (harg16 : arg16.IsWhole) (arg17 : Memref sig .tc .vmem S544x512 .bf16) (harg17 : arg17.IsWhole) (arg18 : Memref sig .tc .vmem S512x1024 .bf16) (harg18 : arg18.IsWhole) (hc0 : ¬cond0_0 i) (hc3 : cond0_3 i) (hc4 : ¬cond0_4 i) (hc5 : ¬cond0_5 i)
    (x0 : Vec Ideal S1x512x1024 .f32) (x1 : Vec Ideal S1x4x512x128 .bf16) (x2 : Vec Ideal S1x512x512 .bf16) (x3 : Vec Ideal S1x512x512 .bf16) (x4 : Vec Ideal S1x16x512 .bf16) (x5 : Vec Ideal S1x16x512 .bf16) (x6 : Vec Ideal S1x6x1024 .f32) (x7 : Vec Ideal S1x512 .f32) (x8 : Vec Ideal S1x1024 .f32) (x9 : Vec Ideal S1x1024 .f32) (x10 : Vec Ideal S4x128x160 .bf16) (x11 : Vec Ideal S1024x1024 .bf16) (x12 : Vec Ideal S512x1024 .bf16) (x13 : Vec Ideal S1024x4096 .bf16) (x14 : Vec Ideal S4096x1024 .bf16) (xs1 : Vec Ideal S512x1024 .bf16) :
    sout0_B_1 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc3 hc4 hc5 x0 x1 x2 x3 x4 x5 x6 x7 x8 x9 x10 x11 x12 x13 x14 xs1
      = View.canon (plainPieces (tileWord (i 0)) x1 x2 x3 x4 x5 x7 x10) := by
  frame_open
  simp (disch := decide) only [↓ View.readCov_skip, ↓ View.readCov_cons_toLoadRect, ↓ View.readCov_fill]
  frame_out
  simp only [View.readCov_eq_canon']
  rfl

/-- The mixed rows at a sequence's last tile. -/
theorem mixed_C (c : Dev nD) (i : grid0.Coords) (arg1 : Memref sig .tc .vmem S1x512x1024 .f32) (harg1 : arg1.IsWhole) (arg2 : Memref sig .tc .vmem S1x4x512x128 .bf16) (harg2 : arg2.IsWhole) (arg3 : Memref sig .tc .vmem S1x512x512 .bf16) (harg3 : arg3.IsWhole) (arg4 : Memref sig .tc .vmem S1x512x512 .bf16) (harg4 : arg4.IsWhole) (arg5 : Memref sig .tc .vmem S1x16x512 .bf16) (harg5 : arg5.IsWhole) (arg6 : Memref sig .tc .vmem S1x16x512 .bf16) (harg6 : arg6.IsWhole) (arg7 : Memref sig .tc .vmem S1x6x1024 .f32) (harg7 : arg7.IsWhole) (arg8 : Memref sig .tc .vmem S1x512 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S4x128x160 .bf16) (harg11 : arg11.IsWhole) (arg12 : Memref sig .tc .vmem S1024x1024 .bf16) (harg12 : arg12.IsWhole) (arg13 : Memref sig .tc .vmem S512x1024 .bf16) (harg13 : arg13.IsWhole) (arg14 : Memref sig .tc .vmem S1024x4096 .bf16) (harg14 : arg14.IsWhole) (arg15 : Memref sig .tc .vmem S4096x1024 .bf16) (harg15 : arg15.IsWhole) (arg16 : Memref sig .tc .vmem S1x512x1024 .f32) (harg16 : arg16.IsWhole) (arg17 : Memref sig .tc .vmem S544x512 .bf16) (harg17 : arg17.IsWhole) (arg18 : Memref sig .tc .vmem S512x1024 .bf16) (harg18 : arg18.IsWhole) (hc0 : ¬cond0_0 i) (hc3 : cond0_3 i) (hc4 : ¬cond0_4 i) (hc5 : cond0_5 i)
    (x0 : Vec Ideal S1x512x1024 .f32) (x1 : Vec Ideal S1x4x512x128 .bf16) (x2 : Vec Ideal S1x512x512 .bf16) (x3 : Vec Ideal S1x512x512 .bf16) (x4 : Vec Ideal S1x16x512 .bf16) (x5 : Vec Ideal S1x16x512 .bf16) (x6 : Vec Ideal S1x6x1024 .f32) (x7 : Vec Ideal S1x512 .f32) (x8 : Vec Ideal S1x1024 .f32) (x9 : Vec Ideal S1x1024 .f32) (x10 : Vec Ideal S4x128x160 .bf16) (x11 : Vec Ideal S1024x1024 .bf16) (x12 : Vec Ideal S512x1024 .bf16) (x13 : Vec Ideal S1024x4096 .bf16) (x14 : Vec Ideal S4096x1024 .bf16) (xs1 : Vec Ideal S512x1024 .bf16) :
    sout0_C_1 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc3 hc4 hc5 x0 x1 x2 x3 x4 x5 x6 x7 x8 x9 x10 x11 x12 x13 x14 xs1
      = View.canon (bottomPieces (tileWord (i 0)) x3 x4 x5 ++ plainPieces (tileWord (i 0)) x1 x2 x3 x4 x5 x7 x10) := by
  frame_open
  simp (disch := decide) only [↓ View.readCov_skip, ↓ View.readCov_cons_toLoadRect, ↓ View.readCov_fill]
  frame_out
  simp only [View.readCov_eq_canon']
  rfl

/-- The mixed rows at a later sequence's first tile. -/
theorem mixed_D (c : Dev nD) (i : grid0.Coords) (arg1 : Memref sig .tc .vmem S1x512x1024 .f32) (harg1 : arg1.IsWhole) (arg2 : Memref sig .tc .vmem S1x4x512x128 .bf16) (harg2 : arg2.IsWhole) (arg3 : Memref sig .tc .vmem S1x512x512 .bf16) (harg3 : arg3.IsWhole) (arg4 : Memref sig .tc .vmem S1x512x512 .bf16) (harg4 : arg4.IsWhole) (arg5 : Memref sig .tc .vmem S1x16x512 .bf16) (harg5 : arg5.IsWhole) (arg6 : Memref sig .tc .vmem S1x16x512 .bf16) (harg6 : arg6.IsWhole) (arg7 : Memref sig .tc .vmem S1x6x1024 .f32) (harg7 : arg7.IsWhole) (arg8 : Memref sig .tc .vmem S1x512 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S4x128x160 .bf16) (harg11 : arg11.IsWhole) (arg12 : Memref sig .tc .vmem S1024x1024 .bf16) (harg12 : arg12.IsWhole) (arg13 : Memref sig .tc .vmem S512x1024 .bf16) (harg13 : arg13.IsWhole) (arg14 : Memref sig .tc .vmem S1024x4096 .bf16) (harg14 : arg14.IsWhole) (arg15 : Memref sig .tc .vmem S4096x1024 .bf16) (harg15 : arg15.IsWhole) (arg16 : Memref sig .tc .vmem S1x512x1024 .f32) (harg16 : arg16.IsWhole) (arg17 : Memref sig .tc .vmem S544x512 .bf16) (harg17 : arg17.IsWhole) (arg18 : Memref sig .tc .vmem S512x1024 .bf16) (harg18 : arg18.IsWhole) (hc0 : ¬cond0_0 i) (hc3 : cond0_3 i) (hc4 : cond0_4 i) (hc5 : ¬cond0_5 i)
    (x0 : Vec Ideal S1x512x1024 .f32) (x1 : Vec Ideal S1x4x512x128 .bf16) (x2 : Vec Ideal S1x512x512 .bf16) (x3 : Vec Ideal S1x512x512 .bf16) (x4 : Vec Ideal S1x16x512 .bf16) (x5 : Vec Ideal S1x16x512 .bf16) (x6 : Vec Ideal S1x6x1024 .f32) (x7 : Vec Ideal S1x512 .f32) (x8 : Vec Ideal S1x1024 .f32) (x9 : Vec Ideal S1x1024 .f32) (x10 : Vec Ideal S4x128x160 .bf16) (x11 : Vec Ideal S1024x1024 .bf16) (x12 : Vec Ideal S512x1024 .bf16) (x13 : Vec Ideal S1024x4096 .bf16) (x14 : Vec Ideal S4096x1024 .bf16) (xs1 : Vec Ideal S512x1024 .bf16) :
    sout0_D_1 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc3 hc4 hc5 x0 x1 x2 x3 x4 x5 x6 x7 x8 x9 x10 x11 x12 x13 x14 xs1
      = View.canon (topPieces (tileWord (i 0)) x3 x4 ++ plainPieces (tileWord (i 0)) x1 x2 x3 x4 x5 x7 x10) := by
  frame_open
  simp (disch := decide) only [↓ View.readCov_skip, ↓ View.readCov_cons_toLoadRect, ↓ View.readCov_fill]
  frame_out
  simp only [View.readCov_eq_canon']
  rfl

end Cert.Outffn
-- ==== Proof.Outffn.BandTable.lean ====
module

public import proofs.«01_k».proof.KernelIdeal

@[expose] public section

/-! # The words of the four band matrices

The pooling product multiplies 160 consecutive rows of `u` by a constant 128 × 160 matrix, one per
level `k`.  Row `r` of level `k` averages the `2·2^k` rows from `r + 16 − 2^k` on and takes away the
row `r + 16` itself: `bandWord k r c` is the bfloat16 word of that entry. -/

namespace Cert.Outffn
open Cert.KernelIdeal

/-- One over the window's length `2·2^k`, as a bfloat16 word. -/
def weightWord : ℕ → ℕ
  | 0 => 0x3F00 | 1 => 0x3E80 | 2 => 0x3E00 | _ => 0x3D80

/-- One over the window's length, less one. -/
def centreWord : ℕ → ℕ
  | 0 => 0xBF00 | 1 => 0xBF40 | 2 => 0xBF60 | _ => 0xBF70

/-- Entry `(r, c)` of level `k`'s band matrix. -/
def bandWord (k r c : ℕ) : ℕ :=
  if r + 16 ≤ c + 2 ^ k ∧ c < r + 16 + 2 ^ k then
    (if c = r + 16 then centreWord k else weightWord k) else 0

/-- Sixteen rows, from row `a`, of level `k`'s matrix in the program's literal are the band's. -/
abbrev Rows (k a : ℕ) : Prop :=
  ∀ r < 16, ∀ c < 160, (lit0t ((k * 128 + (a + r)) * 160 + c)).toNat = bandWord k (a + r) c

end Cert.Outffn
-- ==== Proof.Outffn.Bands0.lean ====
module

public import proofs.«01_k».proof.Proof.Outffn.BandTable

@[expose] public section
set_option maxRecDepth 100000

/-! # Level 0's band matrix in the program's literal, sixteen rows at a time

The kernel evaluates the table's lookup; sixteen rows keep its memory small. -/

namespace Cert.Outffn

theorem rows0_0 : Rows 0 0 := by decide +kernel
theorem rows0_16 : Rows 0 16 := by decide +kernel
theorem rows0_32 : Rows 0 32 := by decide +kernel
theorem rows0_48 : Rows 0 48 := by decide +kernel
theorem rows0_64 : Rows 0 64 := by decide +kernel
theorem rows0_80 : Rows 0 80 := by decide +kernel
theorem rows0_96 : Rows 0 96 := by decide +kernel
theorem rows0_112 : Rows 0 112 := by decide +kernel

/-- All 128 rows. -/
theorem level0 (r c : ℕ) (hr : r < 128) (hc : c < 160) :
    (Cert.KernelIdeal.lit0t ((0 * 128 + r) * 160 + c)).toNat = bandWord 0 r c := by
  have key : ∀ a, Rows 0 a → a ≤ r → r < a + 16 →
      (Cert.KernelIdeal.lit0t ((0 * 128 + r) * 160 + c)).toNat = bandWord 0 r c := fun a h h1 h2 => by
    have := h (r - a) (by omega) c hc
    rwa [Nat.add_sub_cancel' h1] at this
  have : r / 16 < 8 := by omega
  rcases (by omega : r / 16 = 0 ∨ r / 16 = 1 ∨ r / 16 = 2 ∨ r / 16 = 3 ∨ r / 16 = 4 ∨ r / 16 = 5 ∨
    r / 16 = 6 ∨ r / 16 = 7) with e | e | e | e | e | e | e | e
  · exact key 0 rows0_0 (by omega) (by omega)
  · exact key 16 rows0_16 (by omega) (by omega)
  · exact key 32 rows0_32 (by omega) (by omega)
  · exact key 48 rows0_48 (by omega) (by omega)
  · exact key 64 rows0_64 (by omega) (by omega)
  · exact key 80 rows0_80 (by omega) (by omega)
  · exact key 96 rows0_96 (by omega) (by omega)
  · exact key 112 rows0_112 (by omega) (by omega)

end Cert.Outffn
-- ==== Proof.Outffn.Bands1.lean ====
module

public import proofs.«01_k».proof.Proof.Outffn.BandTable

@[expose] public section
set_option maxRecDepth 100000

/-! # Level 1's band matrix in the program's literal, sixteen rows at a time

The kernel evaluates the table's lookup; sixteen rows keep its memory small. -/

namespace Cert.Outffn

theorem rows1_0 : Rows 1 0 := by decide +kernel
theorem rows1_16 : Rows 1 16 := by decide +kernel
theorem rows1_32 : Rows 1 32 := by decide +kernel
theorem rows1_48 : Rows 1 48 := by decide +kernel
theorem rows1_64 : Rows 1 64 := by decide +kernel
theorem rows1_80 : Rows 1 80 := by decide +kernel
theorem rows1_96 : Rows 1 96 := by decide +kernel
theorem rows1_112 : Rows 1 112 := by decide +kernel

/-- All 128 rows. -/
theorem level1 (r c : ℕ) (hr : r < 128) (hc : c < 160) :
    (Cert.KernelIdeal.lit0t ((1 * 128 + r) * 160 + c)).toNat = bandWord 1 r c := by
  have key : ∀ a, Rows 1 a → a ≤ r → r < a + 16 →
      (Cert.KernelIdeal.lit0t ((1 * 128 + r) * 160 + c)).toNat = bandWord 1 r c := fun a h h1 h2 => by
    have := h (r - a) (by omega) c hc
    rwa [Nat.add_sub_cancel' h1] at this
  have : r / 16 < 8 := by omega
  rcases (by omega : r / 16 = 0 ∨ r / 16 = 1 ∨ r / 16 = 2 ∨ r / 16 = 3 ∨ r / 16 = 4 ∨ r / 16 = 5 ∨
    r / 16 = 6 ∨ r / 16 = 7) with e | e | e | e | e | e | e | e
  · exact key 0 rows1_0 (by omega) (by omega)
  · exact key 16 rows1_16 (by omega) (by omega)
  · exact key 32 rows1_32 (by omega) (by omega)
  · exact key 48 rows1_48 (by omega) (by omega)
  · exact key 64 rows1_64 (by omega) (by omega)
  · exact key 80 rows1_80 (by omega) (by omega)
  · exact key 96 rows1_96 (by omega) (by omega)
  · exact key 112 rows1_112 (by omega) (by omega)

end Cert.Outffn
-- ==== Proof.Outffn.Bands2.lean ====
module

public import proofs.«01_k».proof.Proof.Outffn.BandTable

@[expose] public section
set_option maxRecDepth 100000

/-! # Level 2's band matrix in the program's literal, sixteen rows at a time

The kernel evaluates the table's lookup; sixteen rows keep its memory small. -/

namespace Cert.Outffn

theorem rows2_0 : Rows 2 0 := by decide +kernel
theorem rows2_16 : Rows 2 16 := by decide +kernel
theorem rows2_32 : Rows 2 32 := by decide +kernel
theorem rows2_48 : Rows 2 48 := by decide +kernel
theorem rows2_64 : Rows 2 64 := by decide +kernel
theorem rows2_80 : Rows 2 80 := by decide +kernel
theorem rows2_96 : Rows 2 96 := by decide +kernel
theorem rows2_112 : Rows 2 112 := by decide +kernel

/-- All 128 rows. -/
theorem level2 (r c : ℕ) (hr : r < 128) (hc : c < 160) :
    (Cert.KernelIdeal.lit0t ((2 * 128 + r) * 160 + c)).toNat = bandWord 2 r c := by
  have key : ∀ a, Rows 2 a → a ≤ r → r < a + 16 →
      (Cert.KernelIdeal.lit0t ((2 * 128 + r) * 160 + c)).toNat = bandWord 2 r c := fun a h h1 h2 => by
    have := h (r - a) (by omega) c hc
    rwa [Nat.add_sub_cancel' h1] at this
  have : r / 16 < 8 := by omega
  rcases (by omega : r / 16 = 0 ∨ r / 16 = 1 ∨ r / 16 = 2 ∨ r / 16 = 3 ∨ r / 16 = 4 ∨ r / 16 = 5 ∨
    r / 16 = 6 ∨ r / 16 = 7) with e | e | e | e | e | e | e | e
  · exact key 0 rows2_0 (by omega) (by omega)
  · exact key 16 rows2_16 (by omega) (by omega)
  · exact key 32 rows2_32 (by omega) (by omega)
  · exact key 48 rows2_48 (by omega) (by omega)
  · exact key 64 rows2_64 (by omega) (by omega)
  · exact key 80 rows2_80 (by omega) (by omega)
  · exact key 96 rows2_96 (by omega) (by omega)
  · exact key 112 rows2_112 (by omega) (by omega)

end Cert.Outffn
-- ==== Proof.Outffn.Bands3.lean ====
module

public import proofs.«01_k».proof.Proof.Outffn.BandTable

@[expose] public section
set_option maxRecDepth 100000

/-! # Level 3's band matrix in the program's literal, sixteen rows at a time

The kernel evaluates the table's lookup; sixteen rows keep its memory small. -/

namespace Cert.Outffn

theorem rows3_0 : Rows 3 0 := by decide +kernel
theorem rows3_16 : Rows 3 16 := by decide +kernel
theorem rows3_32 : Rows 3 32 := by decide +kernel
theorem rows3_48 : Rows 3 48 := by decide +kernel
theorem rows3_64 : Rows 3 64 := by decide +kernel
theorem rows3_80 : Rows 3 80 := by decide +kernel
theorem rows3_96 : Rows 3 96 := by decide +kernel
theorem rows3_112 : Rows 3 112 := by decide +kernel

/-- All 128 rows. -/
theorem level3 (r c : ℕ) (hr : r < 128) (hc : c < 160) :
    (Cert.KernelIdeal.lit0t ((3 * 128 + r) * 160 + c)).toNat = bandWord 3 r c := by
  have key : ∀ a, Rows 3 a → a ≤ r → r < a + 16 →
      (Cert.KernelIdeal.lit0t ((3 * 128 + r) * 160 + c)).toNat = bandWord 3 r c := fun a h h1 h2 => by
    have := h (r - a) (by omega) c hc
    rwa [Nat.add_sub_cancel' h1] at this
  have : r / 16 < 8 := by omega
  rcases (by omega : r / 16 = 0 ∨ r / 16 = 1 ∨ r / 16 = 2 ∨ r / 16 = 3 ∨ r / 16 = 4 ∨ r / 16 = 5 ∨
    r / 16 = 6 ∨ r / 16 = 7) with e | e | e | e | e | e | e | e
  · exact key 0 rows3_0 (by omega) (by omega)
  · exact key 16 rows3_16 (by omega) (by omega)
  · exact key 32 rows3_32 (by omega) (by omega)
  · exact key 48 rows3_48 (by omega) (by omega)
  · exact key 64 rows3_64 (by omega) (by omega)
  · exact key 80 rows3_80 (by omega) (by omega)
  · exact key 96 rows3_96 (by omega) (by omega)
  · exact key 112 rows3_112 (by omega) (by omega)

end Cert.Outffn
-- ==== Proof.Outffn.Band.lean ====
module

public import proofs.«01_k».proof.Proof.Outffn.Bands0
public import proofs.«01_k».proof.Proof.Outffn.Bands1
public import proofs.«01_k».proof.Proof.Outffn.Bands2
public import proofs.«01_k».proof.Proof.Outffn.Bands3
public import Idealize.ShloMosaic.Lib.Pointwise
public import Idealize.ShloMosaic.Lib.IdealHost

@[expose] public section

/-! # What the band matrices multiply by

Level `k`'s matrix holds one over the window's length along the window, less one at its centre, so a
row of it times a column is the window's mean less the entry at the centre. -/

noncomputable section
open Idealize.ShloMosaic Idealize.ShloMosaic.TcCoe Idealize.SL.Sem

namespace Cert.Outffn
open Cert.KernelIdeal

/-- Entry `(r, c)` of level `k`'s matrix, as a real. -/
def bandReal (k r c : ℕ) : ℝ :=
  (if r + 16 ≤ c + 2 ^ k ∧ c < r + 16 + 2 ^ k then 1 / (2 * 2 ^ k : ℝ) else 0) - (if c = r + 16 then 1 else 0)

theorem word_zero : Ideal.ofBits .bf16 0x0000#16 = ((0 : ℝ) : EReal) := by simp
theorem word_half : Ideal.ofBits .bf16 0x3F00#16 = ((1 / 2 : ℝ) : EReal) := by
  simp [Ideal.ofBits, Ideal.ieee, -EReal.coe_mul, -EReal.coe_neg]; norm_num
theorem word_quarter : Ideal.ofBits .bf16 0x3E80#16 = ((1 / 4 : ℝ) : EReal) := by
  simp [Ideal.ofBits, Ideal.ieee, -EReal.coe_mul, -EReal.coe_neg]; norm_num
theorem word_eighth : Ideal.ofBits .bf16 0x3E00#16 = ((1 / 8 : ℝ) : EReal) := by
  simp [Ideal.ofBits, Ideal.ieee, -EReal.coe_mul, -EReal.coe_neg]; norm_num
theorem word_sixteenth : Ideal.ofBits .bf16 0x3D80#16 = ((1 / 16 : ℝ) : EReal) := by
  simp [Ideal.ofBits, Ideal.ieee, -EReal.coe_mul, -EReal.coe_neg]; norm_num
theorem word_c0 : Ideal.ofBits .bf16 0xBF00#16 = ((1 / 2 - 1 : ℝ) : EReal) := by
  simp [Ideal.ofBits, Ideal.ieee, -EReal.coe_mul, -EReal.coe_neg, -EReal.coe_sub]; norm_num
theorem word_c1 : Ideal.ofBits .bf16 0xBF40#16 = ((1 / 4 - 1 : ℝ) : EReal) := by
  simp [Ideal.ofBits, Ideal.ieee, -EReal.coe_mul, -EReal.coe_neg, -EReal.coe_sub]; norm_num
theorem word_c2 : Ideal.ofBits .bf16 0xBF60#16 = ((1 / 8 - 1 : ℝ) : EReal) := by
  simp [Ideal.ofBits, Ideal.ieee, -EReal.coe_mul, -EReal.coe_neg, -EReal.coe_sub]; norm_num
theorem word_c3 : Ideal.ofBits .bf16 0xBF70#16 = ((1 / 16 - 1 : ℝ) : EReal) := by
  simp [Ideal.ofBits, Ideal.ieee, -EReal.coe_mul, -EReal.coe_neg, -EReal.coe_sub]; norm_num

/-- Off the centre's column, and in it. -/
theorem weight_value (k : ℕ) (hk : k < 4) :
    Ideal.ofBits .bf16 (BitVec.ofNat 16 (weightWord k)) = ((1 / (2 * 2 ^ k : ℝ) : ℝ) : EReal) ∧
    Ideal.ofBits .bf16 (BitVec.ofNat 16 (centreWord k)) = ((1 / (2 * 2 ^ k : ℝ) - 1 : ℝ) : EReal) := by
  rcases (by omega : k = 0 ∨ k = 1 ∨ k = 2 ∨ k = 3) with rfl | rfl | rfl | rfl
  · exact ⟨word_half.trans (by norm_num), word_c0.trans (by norm_num)⟩
  · exact ⟨word_quarter.trans (by norm_num), word_c1.trans (by norm_num)⟩
  · exact ⟨word_eighth.trans (by norm_num), word_c2.trans (by norm_num)⟩
  · exact ⟨word_sixteenth.trans (by norm_num), word_c3.trans (by norm_num)⟩

theorem word_value (k r c : ℕ) (hk : k < 4) :
    Ideal.ofBits .bf16 (BitVec.ofNat 16 (bandWord k r c)) = ((bandReal k r c : ℝ) : EReal) := by
  have hp : 0 < 2 ^ k := Nat.two_pow_pos k
  unfold bandWord bandReal
  by_cases h : r + 16 ≤ c + 2 ^ k ∧ c < r + 16 + 2 ^ k
  · rw [if_pos h, if_pos h]
    by_cases h2 : c = r + 16
    · rw [if_pos h2, if_pos h2]; exact (weight_value k hk).2
    · rw [if_neg h2, if_neg h2, sub_zero]; exact (weight_value k hk).1
  · rw [if_neg h, if_neg h, if_neg (by omega), sub_zero]; exact word_zero

/-- The literal's lookup at a position. -/
theorem lit_at : ∀ x : Fin 81920, lit0 x = lit0t x.val
  | ⟨_, _⟩ => rfl

theorem lit_value (x : Fin 81920) (n : ℕ) (h : (lit0t x.val).toNat = n) :
    (FloatOps.ofBits (F := Ideal) .bf16 (lit0 x) : EReal) = Ideal.ofBits .bf16 (BitVec.ofNat 16 n) := by
  rw [lit_at x]
  generalize lit0t x.val = w at h
  rw [← h, BitVec.ofNat_toNat, BitVec.setWidth_eq]
  rfl

/-- The literal's words, every level. -/
theorem words (k r c : ℕ) (hk : k < 4) (hr : r < 128) (hc : c < 160) (n : ℕ) (hn : n = (k * 128 + r) * 160 + c) :
    (lit0t n).toNat = bandWord k r c := by
  subst hn
  rcases (by omega : k = 0 ∨ k = 1 ∨ k = 2 ∨ k = 3) with h | h | h | h
  · rw [h]; exact level0 r c hr hc
  · rw [h]; exact level1 r c hr hc
  · rw [h]; exact level2 r c hr hc
  · rw [h]; exact level3 r c hr hc

/-- The program's literal is the band matrices. -/
theorem literal_value (k : Fin 4) (r : Fin 128) (c : Fin 160) :
    (FloatOps.ofBits (F := Ideal) .bf16 (lit0 (S4x128x160.rowMajor (ix3 k r c))) : EReal) = ((bandReal k.val r.val c.val : ℝ) : EReal) := by
  have e : (S4x128x160.rowMajor (ix3 k r c)).val = (k.val * 128 + r.val) * 160 + c.val := Shape.rowMajor_val_three _
  exact (lit_value _ _ (words k.val r.val c.val k.isLt r.isLt c.isLt _ e)).trans (word_value k.val r.val c.val k.isLt)

/-- A row of level `k`'s matrix times a column: the mean over the window less the entry at its centre. -/
theorem band_sum (g : ℕ → ℝ) (k r : ℕ) (hk : k < 4) (hr : r < 128) :
    ∑ c ∈ Finset.range 160, bandReal k r c * g c =
      (∑ p ∈ Finset.Ico (r + 16 - 2 ^ k) (r + 16 + 2 ^ k), g p) * (1 / (2 * 2 ^ k : ℝ)) - g (r + 16) := by
  have hp : 2 ^ k ≤ 8 := by
    rcases (by omega : k = 0 ∨ k = 1 ∨ k = 2 ∨ k = 3) with rfl | rfl | rfl | rfl <;> norm_num
  unfold bandReal
  simp only [sub_mul, Finset.sum_sub_distrib, ite_mul, zero_mul, one_mul]
  rw [Finset.sum_ite_eq' (Finset.range 160) (r + 16) g, if_pos (Finset.mem_range.2 (by omega)), Finset.sum_mul, ← Finset.sum_filter]
  congr 1
  refine Finset.sum_congr ?_ fun p _ => mul_comm _ _
  ext p
  simp only [Finset.mem_filter, Finset.mem_range, Finset.mem_Ico]
  omega

end Cert.Outffn
-- ==== Proof.Outffn.Windows.lean ====
module

public import Mathlib.Data.EReal.Operations
public import Mathlib.Algebra.BigOperators.Intervals

@[expose] public section

/-! # Means over a clipped window of a real column

The pooling works down the time axis of one channel: a sequence `w : ℕ → ℝ` that is zero from 4096
on.  The window of half-width `hw` at time `s` is the times `s − hw ≤ j < s + hw` that exist.  The
kernel reads the column with sixteen zeros put before it, so the same sum is a sum over all
`2·hw` places of the padded column. -/

namespace Cert.Outffn

/-- The window's first time. -/
def winLo (hw s : ℕ) : ℕ := s - hw

/-- One past the window's last time. -/
def winHi (hw s : ℕ) : ℕ := min 4096 (s + hw)

/-- The sum over the window. -/
noncomputable def winSum (w : ℕ → ℝ) (hw s : ℕ) : ℝ := ∑ j ∈ Finset.Ico (winLo hw s) (winHi hw s), w j

/-- The window's length. -/
def winLen (hw s : ℕ) : ℕ := winHi hw s - winLo hw s

/-- The window's mean less the entry at its centre. -/
noncomputable def pooled (w : ℕ → ℝ) (hw s : ℕ) : ℝ := winSum w hw s * (1 / (winLen hw s : ℝ)) - w s

/-- The column with sixteen zeros put before it. -/
noncomputable def pad (w : ℕ → ℝ) (p : ℕ) : ℝ := if p < 16 then 0 else w (p - 16)

theorem pad_add (w : ℕ → ℝ) (s : ℕ) : pad w (s + 16) = w s := by
  unfold pad; rw [if_neg (by omega), Nat.add_sub_cancel]

/-- The window's sum is a difference of prefix sums. -/
theorem winSum_eq_sub (w : ℕ → ℝ) (hw s : ℕ) (hs : s < 4096) :
    winSum w hw s = ∑ j ∈ Finset.range (winHi hw s), w j - ∑ j ∈ Finset.range (winLo hw s), w j := by
  unfold winSum
  exact Finset.sum_Ico_eq_sub _ (by unfold winLo winHi; omega)

theorem winLen_pos (hw s : ℕ) (h : 0 < hw) (hs : s < 4096) : 0 < winLen hw s := by
  unfold winLen winLo winHi; omega

/-- Away from the two ends the window is whole. -/
theorem winLen_inner (hw s : ℕ) (h1 : hw ≤ s) (h2 : s + hw ≤ 4096) : winLen hw s = 2 * hw := by
  unfold winLen winLo winHi; omega

/-- The window's sum over the padded column. -/
theorem winSum_eq_pad (w : ℕ → ℝ) (hz : ∀ j, 4096 ≤ j → w j = 0) (hw s : ℕ) (hh : hw ≤ 16) :
    winSum w hw s = ∑ p ∈ Finset.Ico (s + 16 - hw) (s + 16 + hw), pad w p := by
  have e : winSum w hw s = ∑ p ∈ Finset.Ico (winLo hw s + 16) (winHi hw s + 16), pad w p := by
    unfold winSum
    rw [← Finset.sum_Ico_add' (pad w) (winLo hw s) (winHi hw s) 16]
    exact Finset.sum_congr rfl fun j _ => (pad_add w j).symm
  rw [e]
  refine Finset.sum_subset ?_ fun p hp hn => ?_
  · intro p hp
    simp only [Finset.mem_Ico, winLo, winHi] at hp ⊢
    omega
  · simp only [Finset.mem_Ico, winLo, winHi, not_and_or, not_le, not_lt] at hp hn
    unfold pad
    split_ifs with h
    · rfl
    · exact hz _ (by omega)

end Cert.Outffn
-- ==== Proof.Outffn.RefPool.lean ====
module

public import proofs.«01_k».proof.Proof.Outffn.Windows
public import proofs.«01_k».proof.Proof.Gen.ReferenceIdeal.Read
public import Idealize.ShloMosaic.Lib.Pointwise

@[expose] public section

/-! # The reference's pooling

The reference sums each channel down time once (`cumsum`), puts a zero row before the sums, and at
each level gathers the sums at the window's two ends: their difference over the window's length,
less the entry itself.  At finite entries that is `pooled`. -/

set_option maxRecDepth 20000

noncomputable section
open Idealize.ShloMosaic Idealize.ShloMosaic.TcCoe Idealize.SL.Sem

namespace Cert.Outffn
open Cert.ReferenceIdeal Cert.ReferenceIdeal.Read

/-! ## The running sum -/

/-- A left fold of additions is the list's sum. -/
theorem foldl_add_sum {ι : Type} (l : List ι) (g : ι → EReal) (v : EReal) :
    l.foldl (fun r n => r + g n) v = v + (l.map g).sum := by
  induction l generalizing v with
  | nil => simp
  | cons a l ih => rw [List.foldl_cons, ih, List.map_cons, List.sum_cons, add_assoc]

/-- Of the `N + 1` places of the window ending at `s`, the first `N − s` are padding. -/
theorem window_prefix (N : ℕ) (f : ℕ → EReal) (s : ℕ) (hs : s ≤ N) :
    (∑ n ∈ Finset.range (N + 1), if N ≤ s + n then f (s + n - N) else 0) =
      ∑ j ∈ Finset.range (s + 1), f j := by
  obtain ⟨d, rfl⟩ : ∃ d, N = s + d := ⟨N - s, by omega⟩
  rw [show s + d + 1 = d + (s + 1) by omega, Finset.sum_range_add, Finset.sum_eq_zero (fun n hn => ?_), zero_add]
  · refine Finset.sum_congr rfl fun n hn => ?_
    rw [if_pos (by omega)]; congr 1; omega
  · rw [Finset.mem_range] at hn; rw [if_neg (by omega)]

theorem foldl_add_fin (N : ℕ) (g : Fin N → EReal) :
    (List.finRange N).foldl (fun (r : EReal) n => r + g n) 0 = ∑ n, g n := by
  rw [foldl_add_sum, zero_add, Fin.sum_univ_def]

/-- A window's fold of additions is a sum over the window's places, each the entry the place reads
or zero where it falls outside. -/
theorem reduceWindow_sum {s t u : Shape} (window strides lo hi : Fin s.rank → Nat) (x : s.Idx → EReal)
    (init : u.Idx → EReal) (h : s.ReduceWindows window strides lo hi t) (hu : 0 < u.numel)
    (hz : ∀ i, init i = 0) (j : t.Idx) (g : Fin (⟨s.rank, window⟩ : Shape).numel → EReal)
    (hin : ∀ (n : Fin (⟨s.rank, window⟩ : Shape).numel) (p : Fin s.rank → Nat),
      p = (fun a => (j (a.cast h.1.symm)).val * strides a + ((⟨s.rank, window⟩ : Shape).rowMajor.symm n a).val) →
      ∀ H : ∀ a, lo a ≤ p a ∧ p a - lo a < s.size a, x (fun a => ⟨p a - lo a, (H a).2⟩) = g n)
    (hout : ∀ (n : Fin (⟨s.rank, window⟩ : Shape).numel) (p : Fin s.rank → Nat),
      p = (fun a => (j (a.cast h.1.symm)).val * strides a + ((⟨s.rank, window⟩ : Shape).rowMajor.symm n a).val) →
      (¬ ∀ a, lo a ≤ p a ∧ p a - lo a < s.size a) → g n = 0) :
    Host.reduceWindow (· + ·) window strides lo hi x init h hu j = ∑ n, g n := by
  rw [← foldl_add_fin]
  unfold Host.reduceWindow
  dsimp only
  rw [hz]
  refine congrArg (fun F => List.foldl F (0 : EReal) _) ?_
  funext r n
  congr 1
  split_ifs with H
  · exact hin n _ rfl H
  · exact (hout n _ rfl H).symm

theorem numel_window : (⟨4, ![1, 4096, 1, 1]⟩ : Shape).numel = 4096 := by
  show ∏ a : Fin 4, (![1, 4096, 1, 1] : Fin 4 → Nat) a = 4096
  rw [Fin.prod_univ_four]
  rfl

theorem symm_window (n : Fin (⟨4, ![1, 4096, 1, 1]⟩ : Shape).numel) :
    (⟨4, ![1, 4096, 1, 1]⟩ : Shape).rowMajor.symm n =
      ix4 (0 : Fin 1) (n.cast numel_window) (0 : Fin 1) (0 : Fin 1) :=
  (Equiv.symm_apply_eq _).2 (Fin.ext (by
    rw [Shape.rowMajor_val_four]
    show n.val = ((0 * 4096 + n.val) * 1 + 0) * 1 + 0
    omega))

/-- The running sum at time `s`. -/
theorem cumsum_at (x : Vec Ideal S8x4096x4x128 .f32) (v : Vec Ideal S_ .f32) (hv : ∀ i, v i = (0 : EReal))
    (b : Fin 8) (s : Fin 4096) (k : Fin 4) (q : Fin 128) :
    Host.reduceWindowAdd (F := Ideal) (φ := .f32) ![1, 4096, 1, 1] ![1, 1, 1, 1] ![0, 4095, 0, 0] ![0, 0, 0, 0] x v
      Gen.reduceWindows_S8x4096x4x128_S8x4096x4x128_w1s1p0_0_w4096s1p4095_0_w1s1p0_0_w1s1p0_0 Gen.h_S_ (ix4 b s k q) =
    ∑ j ∈ Finset.range (s.val + 1), if h : j < 4096 then (x (ix4 b ⟨j, h⟩ k q) : EReal) else 0 := by
  let f : ℕ → EReal := fun j => if h : j < 4096 then (x (ix4 b ⟨j, h⟩ k q) : EReal) else 0
  let G : ℕ → EReal := fun n => if 4095 ≤ s.val + n then f (s.val + n - 4095) else 0
  have hp : ∀ (n : Fin (⟨4, ![1, 4096, 1, 1]⟩ : Shape).numel) (p : Fin 4 → Nat),
      p = (fun a => (ix4 b s k q a).val * (![1, 1, 1, 1] : Fin 4 → Nat) a +
        ((⟨4, ![1, 4096, 1, 1]⟩ : Shape).rowMajor.symm n a).val) →
      p 0 = b.val ∧ p 1 = s.val + n.val ∧ p 2 = k.val ∧ p 3 = q.val := by
    intro n p e
    rw [symm_window] at e
    subst e
    exact ⟨by show b.val * 1 + 0 = _; omega, by show s.val * 1 + n.val = _; omega,
      by show k.val * 1 + 0 = _; omega, by show q.val * 1 + 0 = _; omega⟩
  unfold Host.reduceWindowAdd
  rw [Ideal.hostReduceWindowAdd_def]
  unfold Ideal.hostReduceWindowAdd
  refine (reduceWindow_sum (s := S8x4096x4x128) (u := S_) _ _ _ _ x _ _ _ (fun _ => hv _) (ix4 b s k q) (fun n => G n.val) ?_ ?_).trans ?_
  · intro n p e H
    obtain ⟨p0, p1, p2, p3⟩ := hp n p e
    have h1 : 4095 ≤ p 1 := (H (1 : Fin 4)).1
    have hl : s.val + n.val - 4095 < 4096 := by
      have h2 : p 1 - 4095 < 4096 := (H (1 : Fin 4)).2
      omega
    show _ = if 4095 ≤ s.val + n.val then f (s.val + n.val - 4095) else 0
    rw [if_pos (by omega)]
    show _ = if h : s.val + n.val - 4095 < 4096 then (x (ix4 b ⟨s.val + n.val - 4095, h⟩ k q) : EReal) else 0
    rw [dif_pos hl]
    congr 1
    funext a
    match a with
    | ⟨0, _⟩ => exact Fin.ext (by show p 0 - 0 = b.val; omega)
    | ⟨1, _⟩ => exact Fin.ext (by show p 1 - 4095 = s.val + n.val - 4095; omega)
    | ⟨2, _⟩ => exact Fin.ext (by show p 2 - 0 = k.val; omega)
    | ⟨3, _⟩ => exact Fin.ext (by show p 3 - 0 = q.val; omega)
  · intro n p e H
    obtain ⟨p0, p1, p2, p3⟩ := hp n p e
    show (if 4095 ≤ s.val + n.val then f (s.val + n.val - 4095) else 0) = 0
    refine if_neg fun h1 => H fun a => ?_
    have hn : n.val < 4096 := by have := n.isLt; have e := numel_window; omega
    match a with
    | ⟨0, _⟩ => show 0 ≤ p 0 ∧ p 0 - 0 < 8; omega
    | ⟨1, _⟩ => show 4095 ≤ p 1 ∧ p 1 - 4095 < 4096; omega
    | ⟨2, _⟩ => show 0 ≤ p 2 ∧ p 2 - 0 < 4; omega
    | ⟨3, _⟩ => show 0 ≤ p 3 ∧ p 3 - 0 < 128; omega
  · refine (Fin.sum_univ_eq_sum_range G (⟨4, ![1, 4096, 1, 1]⟩ : Shape).numel).trans ?_
    rw [numel_window]
    exact window_prefix 4095 f s.val (by have := s.isLt; omega)

/-! ## The gather -/

/-- One gathered row: the prefix sum at the start index, read signed and clamped. -/
theorem gather_at (X : Vec Ideal S8x4097x128 .f32) (I : IVec S4096x1 32) (b : Fin 8) (s : Fin 4096) (c : Fin 128) :
    Host.gather gather_S8x4097x128_S4096x1_S8x4096x128_02_1_n_n_1_1_81128 X I (ix3 b s c) =
      X (ix3 b ⟨min (I (ix2 s 0)).toInt.toNat 4096, by omega⟩ c) := by
  unfold Host.gather
  congr 1
  funext a
  refine Fin.ext ?_
  let D := gather_S8x4097x128_S4096x1_S8x4096x128_02_1_n_n_1_1_81128
  show D.start (ix3 b s c) I a + D.batchCoord (ix3 b s c) a + D.offCoord (ix3 b s c) a = _
  rw [GatherDims.batchCoord_eq_zero _ _ _ (show a ∉ ([] : List (Fin 3)) from List.not_mem_nil), Nat.add_zero]
  match a with
  | ⟨0, _⟩ =>
    have hs : D.start (ix3 b s c) I ⟨0, by decide⟩ = 0 := by
      unfold GatherDims.start; exact dif_neg (show (⟨0, by decide⟩ : Fin 3) ∉ ([1] : List (Fin 3)) by decide)
    rw [hs, Nat.zero_add]
    rfl
  | ⟨1, _⟩ =>
    rw [GatherDims.offCoord_eq_zero _ _ _ (fun h => ((GatherDims.mem_sKept _ _).mp h).1 (List.mem_singleton.mpr rfl)), Nat.add_zero]
    unfold GatherDims.start
    rw [dif_pos (show (⟨1, by decide⟩ : Fin 3) ∈ D.startIndexMap from List.mem_singleton.mpr rfl)]
    have hsi : D.siIdx (ix3 b s c) ⟨List.idxOf (⟨1, by decide⟩ : Fin 3) D.startIndexMap,
        List.idxOf_lt_length_iff.2 (List.mem_singleton.mpr rfl)⟩ = ix2 s 0 := by
      funext e; refine Fin.ext ?_
      match e with
      | ⟨0, _⟩ => rfl
      | ⟨1, _⟩ => rfl
    rw [hsi]
    rfl
  | ⟨2, _⟩ =>
    have hs : D.start (ix3 b s c) I ⟨2, by decide⟩ = 0 := by
      unfold GatherDims.start; exact dif_neg (show (⟨2, by decide⟩ : Fin 3) ∉ ([1] : List (Fin 3)) by decide)
    rw [hs, Nat.zero_add]
    rfl

/-! ## One level -/

/-- The window's first time as the reference computes it. -/
def loVec (hw : BitVec 32) : IVec S4096 32 :=
  minsi (broadcastInDim S4096 ![] Gen.bcast_S_S4096 (id (constantI S_ 32 4096#32)))
    (maxsi (broadcastInDim S4096 ![] Gen.bcast_S_S4096 (id (constantI S_ 32 0#32)))
      (subi (iotaInDim S4096 32 0) (broadcastInDim S4096 ![] Gen.bcast_S_S4096 (constantI S_ 32 hw))))

/-- One past its last time. -/
def hiVec (hw : BitVec 32) : IVec S4096 32 :=
  minsi (broadcastInDim S4096 ![] Gen.bcast_S_S4096 (id (constantI S_ 32 4096#32)))
    (maxsi (broadcastInDim S4096 ![] Gen.bcast_S_S4096 (id (constantI S_ 32 0#32)))
      (addi (iotaInDim S4096 32 0) (broadcastInDim S4096 ![] Gen.bcast_S_S4096 (constantI S_ 32 hw))))

/-- A vector of row numbers as the gather's start indices. -/
def startVec (v : IVec S4096 32) : IVec S4096x1 32 :=
  broadcastInDim S4096x1 ![0] Gen.bcast_S4096_S4096x1_0
    (select (cmpi .slt v (broadcastInDim S4096 ![] Gen.bcast_S_S4096 (constantI S_ 32 0#32)))
      (addi v (broadcastInDim S4096 ![] Gen.bcast_S_S4096 (constantI S_ 32 4097#32))) v)

/-- The mean over the window, from the prefix sums `P`. -/
def meanVec (hw : BitVec 32) (P : Vec Ideal S8x4097x128 .f32) : Vec Ideal S8x4096x128 .f32 :=
  Host.divf (F := Ideal) (φ := .f32)
    (subf (Host.gather gather_S8x4097x128_S4096x1_S8x4096x128_02_1_n_n_1_1_81128 P (startVec (hiVec hw)))
      (Host.gather gather_S8x4097x128_S4096x1_S8x4096x128_02_1_n_n_1_1_81128 P (startVec (loVec hw))))
    (broadcastInDim S8x4096x128 ![0, 1, 2] Gen.bcast_S1x4096x1_S8x4096x128_0_1_2
      (broadcastInDim S1x4096x1 ![1] Gen.bcast_S4096_S1x4096x1_1 (sitofp (F := Ideal) .f32 (subi (hiVec hw) (loVec hw)))))

theorem mean1 (x : Vec Ideal S8x4096x512 .bf16) : val_main_v67 (F := Ideal) x = meanVec 1#32 (val_main_v47 (F := Ideal) x) := rfl
theorem mean2 (x : Vec Ideal S8x4096x512 .bf16) : val_main_v95 (F := Ideal) x = meanVec 2#32 (val_main_v75 (F := Ideal) x) := rfl
theorem mean4 (x : Vec Ideal S8x4096x512 .bf16) : val_main_v123 (F := Ideal) x = meanVec 4#32 (val_main_v103 (F := Ideal) x) := rfl
theorem mean8 (x : Vec Ideal S8x4096x512 .bf16) : val_main_v151 (F := Ideal) x = meanVec 8#32 (val_main_v131 (F := Ideal) x) := rfl

/-- A small natural's word, read signed. -/
theorem toInt_word (n : ℕ) (h : n < 2 ^ 31) : (BitVec.ofNat 32 n).toInt = n := by
  have e : (BitVec.ofNat 32 n).toNat = n := by rw [BitVec.toNat_ofNat]; exact Nat.mod_eq_of_lt (by omega)
  rw [BitVec.toInt_eq_toNat_of_lt (by omega), e]

theorem toInt_minsi (a b : BitVec 32) : (IntOp.minsi a b).toInt = min a.toInt b.toInt := by
  unfold IntOp.minsi
  by_cases h : a.slt b = true
  · rw [if_pos h]; rw [BitVec.slt_iff_toInt_lt] at h; omega
  · rw [if_neg h]; rw [BitVec.slt_iff_toInt_lt] at h; omega

theorem toInt_maxsi (a b : BitVec 32) : (IntOp.maxsi a b).toInt = max a.toInt b.toInt := by
  unfold IntOp.maxsi
  by_cases h : b.slt a = true
  · rw [if_pos h]; rw [BitVec.slt_iff_toInt_lt] at h; omega
  · rw [if_neg h]; rw [BitVec.slt_iff_toInt_lt] at h; omega

theorem toInt_sub_small (a b : ℕ) (ha : a < 2 ^ 30) (hb : b < 2 ^ 30) :
    (IntOp.subi (BitVec.ofNat 32 a) (BitVec.ofNat 32 b)).toInt = (a : ℤ) - b := by
  unfold IntOp.subi
  rw [BitVec.toInt_sub, toInt_word a (by omega), toInt_word b (by omega)]
  exact Int.bmod_eq_of_le (by omega) (by omega)

theorem toInt_add_small (a b : ℕ) (ha : a < 2 ^ 30) (hb : b < 2 ^ 30) :
    (IntOp.addi (BitVec.ofNat 32 a) (BitVec.ofNat 32 b)).toInt = (a : ℤ) + b := by
  unfold IntOp.addi
  rw [BitVec.toInt_add, toInt_word a (by omega), toInt_word b (by omega)]
  exact Int.bmod_eq_of_le (by omega) (by omega)

theorem loVec_at (hw : ℕ) (h : hw ≤ 8) (s : Fin 4096) :
    loVec (BitVec.ofNat 32 hw) (ix1 s) = BitVec.ofNat 32 (winLo hw s.val) := by
  pointwise [loVec]
  show IntOp.minsi (BitVec.ofNat 32 4096) (IntOp.maxsi (BitVec.ofNat 32 0) (IntOp.subi (BitVec.ofNat 32 s.val) (BitVec.ofNat 32 hw))) = _
  refine BitVec.eq_of_toInt_eq ?_
  rw [toInt_minsi, toInt_maxsi, toInt_sub_small _ _ (by omega) (by omega), toInt_word _ (by decide),
    toInt_word _ (by decide), toInt_word _ (by unfold winLo; omega)]
  unfold winLo
  omega

theorem hiVec_at (hw : ℕ) (h : hw ≤ 8) (s : Fin 4096) :
    hiVec (BitVec.ofNat 32 hw) (ix1 s) = BitVec.ofNat 32 (winHi hw s.val) := by
  pointwise [hiVec]
  show IntOp.minsi (BitVec.ofNat 32 4096) (IntOp.maxsi (BitVec.ofNat 32 0) (IntOp.addi (BitVec.ofNat 32 s.val) (BitVec.ofNat 32 hw))) = _
  refine BitVec.eq_of_toInt_eq ?_
  rw [toInt_minsi, toInt_maxsi, toInt_add_small _ _ (by omega) (by omega), toInt_word _ (by decide),
    toInt_word _ (by decide), toInt_word _ (by unfold winHi; omega)]
  unfold winHi
  omega

theorem startVec_at (v : IVec S4096 32) (n : ℕ) (hn : n ≤ 4096) (s : Fin 4096) (h : v (ix1 s) = BitVec.ofNat 32 n) :
    startVec v (ix2 s 0) = BitVec.ofNat 32 n := by
  pointwise [startVec]
  rw [h]
  have e : IntOp.cmpi CmpIPredicate.slt (BitVec.ofNat 32 n) 0#32 = 0#1 := by
    show BitVec.ofBool ((BitVec.ofNat 32 n).slt (BitVec.ofNat 32 0)) = 0#1
    have : ¬ (BitVec.ofNat 32 n).slt (BitVec.ofNat 32 0) = true := by
      rw [BitVec.slt_iff_toInt_lt, toInt_word n (by omega), toInt_word 0 (by decide)]; omega
    rw [Bool.not_eq_true] at this
    rw [this]; rfl
  rw [e]
  rfl

theorem meanVec_at (hw : ℕ) (h : hw ≤ 8) (P : Vec Ideal S8x4097x128 .f32) (b : Fin 8) (s : Fin 4096) (q : Fin 128) :
    meanVec (BitVec.ofNat 32 hw) P (ix3 b s q) =
      Ideal.div ((P (ix3 b ⟨winHi hw s.val, by unfold winHi; omega⟩ q) : EReal) -
        P (ix3 b ⟨winLo hw s.val, by unfold winLo; omega⟩ q)) ((winLen hw s.val : ℝ) : EReal) := by
  have hlo := loVec_at hw h s
  have hhi := hiVec_at hw h s
  have h1 := startVec_at _ _ (by unfold winLo; omega) s hlo
  have h2 := startVec_at _ _ (by unfold winHi; omega) s hhi
  unfold meanVec
  generalize loVec (BitVec.ofNat 32 hw) = lo at *
  generalize hiVec (BitVec.ofNat 32 hw) = hi at *
  generalize startVec lo = sl at *
  generalize startVec hi = sh at *
  pointwise
  have e1 : (FloatOps.sitofp (F := Ideal) FTy.f32 (IntOp.subi (hi (ix1 s)) (lo (ix1 s))) : EReal) =
      ((winLen hw s.val : ℝ) : EReal) := by
    show (((IntOp.subi (hi (ix1 s)) (lo (ix1 s))).toInt : ℝ) : EReal) = _
    rw [hhi, hlo, toInt_sub_small _ _ (by unfold winHi; omega) (by unfold winLo; omega)]
    have : ((winHi hw s.val : ℤ) - (winLo hw s.val : ℤ)) = ((winLen hw s.val : ℕ) : ℤ) := by
      unfold winLen winHi winLo; omega
    rw [this, Int.cast_natCast]
  rw [gather_at, gather_at, e1]
  have i1 : (⟨min (sh (ix2 s 0)).toInt.toNat 4096, by omega⟩ : Fin 4097) = ⟨winHi hw s.val, by unfold winHi; omega⟩ :=
    Fin.ext (by
      show min (sh (ix2 s 0)).toInt.toNat 4096 = _
      rw [h2, toInt_word _ (by unfold winHi; omega)]; show _ = winHi hw s.val; unfold winHi; omega)
  have i2 : (⟨min (sl (ix2 s 0)).toInt.toNat 4096, by omega⟩ : Fin 4097) = ⟨winLo hw s.val, by unfold winLo; omega⟩ :=
    Fin.ext (by
      show min (sl (ix2 s 0)).toInt.toNat 4096 = _
      rw [h1, toInt_word _ (by unfold winLo; omega)]; show _ = winLo hw s.val; unfold winLo; omega)
  rw [i1, i2]

/-! ## The prefix sums of finite entries -/

/-- Channel `c` of batch row `b`, as a real sequence. -/
def column (u : Vec Ideal S8x4096x512 .bf16) (b : Fin 8) (c : Fin 512) (j : ℕ) : ℝ :=
  if h : j < 4096 then (u (ix3 b ⟨j, h⟩ c) : EReal).toReal else 0

theorem column_zero (u : Vec Ideal S8x4096x512 .bf16) (b : Fin 8) (c : Fin 512) (j : ℕ) (h : 4096 ≤ j) :
    column u b c j = 0 := dif_neg (by omega)

/-- Every entry is a real number. -/
def Finite (u : Vec Ideal S8x4096x512 .bf16) : Prop := ∀ i, (u i : EReal) ≠ ⊤ ∧ (u i : EReal) ≠ ⊥

theorem column_coe (u : Vec Ideal S8x4096x512 .bf16) (hu : Finite u) (b : Fin 8) (s : Fin 4096) (c : Fin 512) :
    (u (ix3 b s c) : EReal) = ((column u b c s.val : ℝ) : EReal) := by
  unfold column
  rw [dif_pos s.isLt]
  exact (EReal.coe_toReal (hu _).1 (hu _).2).symm

theorem coe_sum {ι : Type} (S : Finset ι) (f : ι → ℝ) : ((∑ i ∈ S, f i : ℝ) : EReal) = ∑ i ∈ S, (f i : EReal) :=
  map_sum (⟨⟨Real.toEReal, EReal.coe_zero⟩, EReal.coe_add⟩ : ℝ →+ EReal) f S

theorem prefix_at (u : Vec Ideal S8x4096x512 .bf16) (hu : Finite u) (b : Fin 8) (n : Fin 4097) (k : Fin 4) (q : Fin 128) :
    val_main_v38 (F := Ideal) u (ix4 b n k q) =
      ((∑ j ∈ Finset.range n.val, column u b ⟨k.val * 128 + q.val, by omega⟩ j : ℝ) : EReal) := by
  have hx : ∀ (s : Fin 4096), val_main_v34 (F := Ideal) u (ix4 b s k q) =
      ((column u b ⟨k.val * 128 + q.val, by omega⟩ s.val : ℝ) : EReal) := fun s => by
    pointwise [val_main_v34, val_main_v33]
    exact column_coe u hu b s _
  have hy : ∀ (s : Fin 4096), val_main_v37 (F := Ideal) u (ix4 b s k q) =
      ((∑ j ∈ Finset.range (s.val + 1), column u b ⟨k.val * 128 + q.val, by omega⟩ j : ℝ) : EReal) := fun s => by
    unfold val_main_v37
    refine (cumsum_at _ _ (fun i => by pointwise [val_main_call0_call0_v0, val_main_call0_call0_cst]) b s k q).trans ?_
    rw [coe_sum]
    refine Finset.sum_congr rfl fun j hj => ?_
    have hj' : j < 4096 := by have := Finset.mem_range.1 hj; have := s.isLt; omega
    rw [dif_pos hj', hx]
  unfold val_main_v38
  generalize val_main_v37 (F := Ideal) u = y at *
  pointwise [val_main_v36, val_main_cst_4]
  by_cases h : n.val < 1
  · rw [dif_pos h, show n.val = 0 by omega]; simp
  · rw [dif_neg h]
    refine (hy _).trans ?_
    show ((∑ j ∈ Finset.range (n.val - 1 + 1), _ : ℝ) : EReal) = _
    rw [show n.val - 1 + 1 = n.val by omega]

theorem sums0 (u : Vec Ideal S8x4096x512 .bf16) (hu : Finite u) (b : Fin 8) (n : Fin 4097) (q : Fin 128) :
    val_main_v47 (F := Ideal) u (ix3 b n q) =
      ((∑ j ∈ Finset.range n.val, column u b ⟨0 * 128 + q.val, by omega⟩ j : ℝ) : EReal) := by
  refine Eq.trans ?_ (prefix_at u hu b n 0 q)
  unfold val_main_v47 val_main_v46
  generalize val_main_v38 (F := Ideal) u = x
  pointwise

theorem sums1 (u : Vec Ideal S8x4096x512 .bf16) (hu : Finite u) (b : Fin 8) (n : Fin 4097) (q : Fin 128) :
    val_main_v75 (F := Ideal) u (ix3 b n q) =
      ((∑ j ∈ Finset.range n.val, column u b ⟨1 * 128 + q.val, by omega⟩ j : ℝ) : EReal) := by
  refine Eq.trans ?_ (prefix_at u hu b n 1 q)
  unfold val_main_v75 val_main_v74
  generalize val_main_v38 (F := Ideal) u = x
  pointwise

theorem sums2 (u : Vec Ideal S8x4096x512 .bf16) (hu : Finite u) (b : Fin 8) (n : Fin 4097) (q : Fin 128) :
    val_main_v103 (F := Ideal) u (ix3 b n q) =
      ((∑ j ∈ Finset.range n.val, column u b ⟨2 * 128 + q.val, by omega⟩ j : ℝ) : EReal) := by
  refine Eq.trans ?_ (prefix_at u hu b n 2 q)
  unfold val_main_v103 val_main_v102
  generalize val_main_v38 (F := Ideal) u = x
  pointwise

theorem sums3 (u : Vec Ideal S8x4096x512 .bf16) (hu : Finite u) (b : Fin 8) (n : Fin 4097) (q : Fin 128) :
    val_main_v131 (F := Ideal) u (ix3 b n q) =
      ((∑ j ∈ Finset.range n.val, column u b ⟨3 * 128 + q.val, by omega⟩ j : ℝ) : EReal) := by
  refine Eq.trans ?_ (prefix_at u hu b n 3 q)
  unfold val_main_v131 val_main_v130
  generalize val_main_v38 (F := Ideal) u = x
  pointwise

/-- The mean from a level's prefix sums. -/
theorem mean_at (u : Vec Ideal S8x4096x512 .bf16) (P : Vec Ideal S8x4097x128 .f32) (b : Fin 8) (s : Fin 4096) (q : Fin 128)
    (c : Fin 512) (hw : ℕ) (h0 : 0 < hw) (h : hw ≤ 8)
    (hP : ∀ n : Fin 4097, P (ix3 b n q) = ((∑ j ∈ Finset.range n.val, column u b c j : ℝ) : EReal)) :
    meanVec (BitVec.ofNat 32 hw) P (ix3 b s q) =
      ((winSum (column u b c) hw s.val * (1 / (winLen hw s.val : ℝ)) : ℝ) : EReal) := by
  have hl : (winLen hw s.val : ℝ) ≠ 0 := by
    have := winLen_pos hw s.val h0 s.isLt
    exact_mod_cast this.ne'
  rw [meanVec_at hw h, hP, hP, Ideal.div_coe hl, ← EReal.coe_sub, ← EReal.coe_mul, winSum_eq_sub _ _ _ s.isLt]

/-- The reference's pooled rows at finite entries. -/
theorem ref_pool (u : Vec Ideal S8x4096x512 .bf16) (hu : Finite u) (b : Fin 8) (s : Fin 4096) (c : Fin 512) :
    val_main_v158 (F := Ideal) u (ix3 b s c) =
      ((pooled (column u b c) (2 ^ (c.val / 128)) s.val : ℝ) : EReal) := by
  have key : ∀ (P : Vec Ideal S8x4097x128 .f32) (k : ℕ) (hk : k < 4), c.val / 128 = k →
      (∀ (n : Fin 4097) (q : Fin 128), P (ix3 b n q) =
        ((∑ j ∈ Finset.range n.val, column u b ⟨k * 128 + q.val, by omega⟩ j : ℝ) : EReal)) →
      (meanVec (BitVec.ofNat 32 (2 ^ k)) P (ix3 b s ⟨c.val % 128, by omega⟩) : EReal) - u (ix3 b s c) =
        ((pooled (column u b c) (2 ^ (c.val / 128)) s.val : ℝ) : EReal) := by
    intro P k hk e hP
    have hc : (⟨k * 128 + c.val % 128, by omega⟩ : Fin 512) = c := Fin.ext (by show k * 128 + c.val % 128 = c.val; omega)
    have h8 : 2 ^ k ≤ 8 := by
      rcases (by omega : k = 0 ∨ k = 1 ∨ k = 2 ∨ k = 3) with rfl | rfl | rfl | rfl <;> decide
    rw [mean_at u P b s ⟨c.val % 128, by omega⟩ c (2 ^ k) (Nat.two_pow_pos k) h8 (fun n => by rw [hP]; show ((∑ j ∈ Finset.range n.val, column u b ⟨k * 128 + c.val % 128, _⟩ j : ℝ) : EReal) = _; rw [hc]),
      column_coe u hu, ← EReal.coe_sub, e]
    rfl
  unfold val_main_v158 val_main_v157 val_main_v156 val_main_v155 val_main_v154 val_main_v153 val_main_v152
  rw [mean1, mean2, mean4, mean8]
  have l0 := sums0 u hu b
  have l1 := sums1 u hu b
  have l2 := sums2 u hu b
  have l3 := sums3 u hu b
  generalize val_main_v47 (F := Ideal) u = P0 at *
  generalize val_main_v75 (F := Ideal) u = P1 at *
  generalize val_main_v103 (F := Ideal) u = P2 at *
  generalize val_main_v131 (F := Ideal) u = P3 at *
  have m0 : c.val / 128 = 0 → (meanVec 1#32 P0 _ : EReal) - _ = _ := fun e => key P0 0 (by decide) e l0
  have m1 : c.val / 128 = 1 → (meanVec 2#32 P1 _ : EReal) - _ = _ := fun e => key P1 1 (by decide) e l1
  have m2 : c.val / 128 = 2 → (meanVec 4#32 P2 _ : EReal) - _ = _ := fun e => key P2 2 (by decide) e l2
  have m3 : c.val / 128 = 3 → (meanVec 8#32 P3 _ : EReal) - _ = _ := fun e => key P3 3 (by decide) e l3
  generalize meanVec 1#32 P0 = M0 at *
  generalize meanVec 2#32 P1 = M1 at *
  generalize meanVec 4#32 P2 = M2 at *
  generalize meanVec 8#32 P3 = M3 at *
  pointwise [val_main_v34, val_main_v33]
  rcases (by omega : c.val / 128 = 0 ∨ c.val / 128 = 1 ∨ c.val / 128 = 2 ∨ c.val / 128 = 3) with e | e | e | e
  · rw [dif_pos (by omega)]; exact m0 e
  · rw [dif_neg (by omega), dif_pos (by omega)]; exact m1 e
  · rw [dif_neg (by omega), dif_neg (by omega), dif_pos (by omega)]; exact m2 e
  · rw [dif_neg (by omega), dif_neg (by omega), dif_neg (by omega)]; exact m3 e

end Cert.Outffn
-- ==== Proof.Outffn.Values.lean ====
module

public import proofs.«01_k».proof.Proof.Outffn.Edge
public import proofs.«01_k».proof.Proof.Outffn.Band
public import proofs.«01_k».proof.Proof.Outffn.RefPool

@[expose] public section

/-! # The mixed rows are the heads and the pooled columns

Over finite columns `w` of the pooling input, each product with a band matrix is the window's mean
less its centre wherever the window is whole, and the rows stored again at the two ends are the same
where it is cut short. -/

noncomputable section
open Idealize.ShloMosaic Idealize.ShloMosaic.TcCoe Idealize.SL.Sem

namespace Cert.Outffn
open Cert.KernelIdeal Cert.KernelIdeal.Gen

theorem first_flag : ∀ i : Fin 8, Scalar.cmpi .sgt (BitVec.ofNat 32 i.val) 0#32 = if 0 < i.val then 1#1 else 0#1 := by decide
theorem last_flag : ∀ i : Fin 8, Scalar.cmpi .slt (BitVec.ofNat 32 i.val) 7#32 = if i.val < 7 then 1#1 else 0#1 := by decide

theorem select_one {α : Type} (a b : α) : Scalar.select 1#1 a b = a := rfl
theorem select_zero {α : Type} (a b : α) : Scalar.select 0#1 a b = b := rfl

/-- The windows' true lengths at the start of a sequence, and at its end. -/
theorem count_first : ∀ (k : Fin 4) (r : Fin 16),
    (count 0#32 0#32 (BitVec.ofNat 32 (2 ^ k.val)) r).toInt = (winLen (2 ^ k.val) (0 + r.val) : ℤ) := by decide +kernel
theorem count_last : ∀ (k : Fin 4) (r : Fin 16),
    (count 7#32 496#32 (BitVec.ofNat 32 (2 ^ k.val)) r).toInt = (winLen (2 ^ k.val) (4080 + r.val) : ℤ) := by decide +kernel

theorem width_le (k : ℕ) (hk : k < 4) : 0 < 2 ^ k ∧ 2 ^ k ≤ 8 := by
  rcases (by omega : k = 0 ∨ k = 1 ∨ k = 2 ∨ k = 3) with rfl | rfl | rfl | rfl <;> norm_num

/-- An end row over real columns. -/
theorem edge_value (w : ℕ → ℝ) (hz : ∀ j, 4096 ≤ j → w j = 0) (f : ℕ → Fin 512 → EReal) (W o : BitVec 32) (hw B : ℕ) (r : Fin 16)
    (c : Fin 512) (h0 : 0 < hw) (h8 : hw ≤ 8) (hB : B + r.val < 4096)
    (hf : ∀ y < 48, f y c = ((pad w (B + y) : ℝ) : EReal))
    (hn : (count W o (BitVec.ofNat 32 hw) r).toInt = (winLen hw (B + r.val) : ℤ)) :
    edgeAt f W o hw r c = ((pooled w hw (B + r.val) : ℝ) : EReal) := by
  have hr := r.isLt
  have hs : ∑ j ∈ Finset.range (2 * hw), f (16 - hw + j + r.val) c = ((winSum w hw (B + r.val) : ℝ) : EReal) := by
    rw [winSum_eq_pad w hz hw _ (by omega), Finset.sum_Ico_eq_sum_range, coe_sum]
    have e : B + r.val + 16 + hw - (B + r.val + 16 - hw) = 2 * hw := by omega
    rw [e]
    refine Finset.sum_congr rfl fun j hj => ?_
    have := Finset.mem_range.1 hj
    rw [hf _ (by omega)]
    exact congrArg (fun p => ((pad w p : ℝ) : EReal)) (by omega)
  have hl : (FloatOps.sitofp (F := Ideal) FTy.f32 (count W o (BitVec.ofNat 32 hw) r) : EReal) = ((winLen hw (B + r.val) : ℝ) : EReal) := by
    show (((count W o (BitVec.ofNat 32 hw) r).toInt : ℝ) : EReal) = _
    rw [hn, Int.cast_natCast]
  have hp : (winLen hw (B + r.val) : ℝ) ≠ 0 := Nat.cast_ne_zero.2 (winLen_pos hw _ h0 hB).ne'
  have hc : f (16 + r.val) c = ((w (B + r.val) : ℝ) : EReal) := by
    rw [hf _ (by omega), show B + (16 + r.val) = B + r.val + 16 by omega, pad_add]
  unfold edgeAt
  rw [hs, hl, hc, Ideal.div_coe hp, ← EReal.coe_mul, ← EReal.coe_sub]
  rfl

/-- Rows stored again over earlier blocks: four blocks of sixteen rows from row `o`. -/
theorem ends_at (o : ℕ) (i0 i1 i2 i3) (p0 p1 p2 p3 : Vec Ideal S16x128 .bf16) (L : List (View.Piece (Elt Ideal) S512x1024 .bf16))
    (G : ℕ → ℕ → EReal) (ho : o + 16 ≤ 512)
    (h0 : ∀ (r : Fin 16) (q : Fin 128), p0 (ix2 r q) = G (o + r.val) (512 + q.val))
    (h1 : ∀ (r : Fin 16) (q : Fin 128), p1 (ix2 r q) = G (o + r.val) (640 + q.val))
    (h2 : ∀ (r : Fin 16) (q : Fin 128), p2 (ix2 r q) = G (o + r.val) (768 + q.val))
    (h3 : ∀ (r : Fin 16) (q : Fin 128), p3 (ix2 r q) = G (o + r.val) (896 + q.val))
    (hL : ∀ (r : Fin 512) (c : Fin 1024), (c.val < 512 ∨ r.val < o ∨ o + 16 ≤ r.val) → View.canon L (ix2 r c) = G r.val c.val)
    (r : Fin 512) (c : Fin 1024) :
    View.canon (⟨Rect.unit (s := ⟨2, ![512, 1024]⟩) ![o, 896] ![16, 128] i3, p3⟩ ::
      ⟨Rect.unit (s := ⟨2, ![512, 1024]⟩) ![o, 768] ![16, 128] i2, p2⟩ ::
      ⟨Rect.unit (s := ⟨2, ![512, 1024]⟩) ![o, 640] ![16, 128] i1, p1⟩ ::
      ⟨Rect.unit (s := ⟨2, ![512, 1024]⟩) ![o, 512] ![16, 128] i0, p0⟩ :: L) (ix2 r c) = G r.val c.val := by
  have skip3 := canon_skip2 (m := 512) (n := 1024) o 896 i3 p3
  have skip2 := canon_skip2 (m := 512) (n := 1024) o 768 i2 p2
  have skip1 := canon_skip2 (m := 512) (n := 1024) o 640 i1 p1
  have skip0 := canon_skip2 (m := 512) (n := 1024) o 512 i0 p0
  by_cases h : c.val < 512 ∨ r.val < o ∨ o + 16 ≤ r.val
  · exact ((skip3 _ r c (by omega)).trans ((skip2 _ r c (by omega)).trans ((skip1 _ r c (by omega)).trans
      (skip0 _ r c (by omega))))).trans (hL r c h)
  · have hr : r.val - o < 16 := by omega
    have er : o + (⟨r.val - o, hr⟩ : Fin 16).val = r.val := by show o + (r.val - o) = r.val; omega
    have hq := c.isLt
    rcases (by omega : (896 ≤ c.val) ∨ (768 ≤ c.val ∧ c.val < 896) ∨ (640 ≤ c.val ∧ c.val < 768) ∨ (512 ≤ c.val ∧ c.val < 640))
      with hk | hk | hk | hk
    · have ec : 896 + (⟨c.val - 896, by omega⟩ : Fin 128).val = c.val := by show 896 + (c.val - 896) = c.val; omega
      refine (canon_hit2 (m := 512) (n := 1024) o 896 i3 p3 _ r c ⟨r.val - o, hr⟩ ⟨c.val - 896, by omega⟩ er ec).trans ?_
      rw [h3, er, ec]
    · have ec : 768 + (⟨c.val - 768, by omega⟩ : Fin 128).val = c.val := by show 768 + (c.val - 768) = c.val; omega
      refine (skip3 _ r c (by omega)).trans ?_
      refine (canon_hit2 (m := 512) (n := 1024) o 768 i2 p2 _ r c ⟨r.val - o, hr⟩ ⟨c.val - 768, by omega⟩ er ec).trans ?_
      rw [h2, er, ec]
    · have ec : 640 + (⟨c.val - 640, by omega⟩ : Fin 128).val = c.val := by show 640 + (c.val - 640) = c.val; omega
      refine (skip3 _ r c (by omega)).trans ((skip2 _ r c (by omega)).trans ?_)
      refine (canon_hit2 (m := 512) (n := 1024) o 640 i1 p1 _ r c ⟨r.val - o, hr⟩ ⟨c.val - 640, by omega⟩ er ec).trans ?_
      rw [h1, er, ec]
    · have ec : 512 + (⟨c.val - 512, by omega⟩ : Fin 128).val = c.val := by show 512 + (c.val - 512) = c.val; omega
      refine (skip3 _ r c (by omega)).trans ((skip2 _ r c (by omega)).trans ((skip1 _ r c (by omega)).trans ?_))
      refine (canon_hit2 (m := 512) (n := 1024) o 512 i0 p0 _ r c ⟨r.val - o, hr⟩ ⟨c.val - 512, by omega⟩ er ec).trans ?_
      rw [h0, er, ec]

section
variable (w : Fin 512 → ℕ → ℝ) (hz : ∀ c j, 4096 ≤ j → w c j = 0) (i : ℕ) (hi : i < 8)
  (x1 : Vec Ideal S1x4x512x128 .bf16) (x2 x3 : Vec Ideal S1x512x512 .bf16) (x4 x5 : Vec Ideal S1x16x512 .bf16)
  (x7 : Vec Ideal S1x512 .f32) (x10 : Vec Ideal S4x128x160 .bf16)
  (h3 : ∀ (r c : Fin 512), (x3 (ix3 0 r c) : EReal) = ((w c (512 * i + r.val) : ℝ) : EReal))
  (h4 : 0 < i → ∀ (r : Fin 16) (c : Fin 512), (x4 (ix3 0 r c) : EReal) = ((w c (512 * i - 16 + r.val) : ℝ) : EReal))
  (h5 : i < 7 → ∀ (r : Fin 16) (c : Fin 512), (x5 (ix3 0 r c) : EReal) = ((w c (512 * i + 512 + r.val) : ℝ) : EReal))
  (h10 : ∀ (k : Fin 4) (r : Fin 128) (x : Fin 160), (x10 (ix3 k r x) : EReal) = ((bandReal k.val r.val x.val : ℝ) : EReal))

include hz hi h3 h4 h5 in
/-- The pooling buffer is the padded column. -/
theorem ub_value (y : ℕ) (hy : y < 544) (c : Fin 512) :
    ub (BitVec.ofNat 32 i) x3 x4 x5 y c = ((pad (w c) (512 * i + y) : ℝ) : EReal) := by
  have hf := first_flag ⟨i, hi⟩
  have hl := last_flag ⟨i, hi⟩
  simp only at hf hl
  unfold ub pad
  by_cases a : y < 16
  · rw [dif_pos a, hf]
    by_cases g : 0 < i
    · rw [if_pos g, select_one, h4 g, if_neg (by omega)]
      exact congrArg (fun p => ((w c p : ℝ) : EReal)) (by show 512 * i - 16 + y = _; omega)
    · rw [if_neg g, select_zero, if_pos (by omega)]
      exact EReal.coe_zero.symm
  · rw [dif_neg a, if_neg (by omega)]
    by_cases a2 : y < 528
    · rw [dif_pos a2, h3]
      exact congrArg (fun p => ((w c p : ℝ) : EReal)) (by show 512 * i + (y - 16) = _; omega)
    · rw [dif_neg a2, dif_pos hy, hl]
      by_cases g : i < 7
      · rw [if_pos g, select_one, h5 g]
        exact congrArg (fun p => ((w c p : ℝ) : EReal)) (by show 512 * i + 512 + (y - 528) = _; omega)
      · rw [if_neg g, select_zero, hz c _ (by omega)]
        exact EReal.coe_zero.symm

include hz hi h3 h4 h5 h10 in
/-- A band product where the window is whole. -/
theorem pool_value (r : Fin 512) (c : ℕ) (hc : c < 512) (h1 : 2 ^ (c / 128) ≤ 512 * i + r.val) (h2 : 512 * i + r.val + 2 ^ (c / 128) ≤ 4096) :
    poolAt (BitVec.ofNat 32 i) x3 x4 x5 x10 r c hc = ((pooled (w ⟨c, hc⟩) (2 ^ (c / 128)) (512 * i + r.val) : ℝ) : EReal) := by
  have hr := r.isLt
  have hk : c / 128 < 4 := by omega
  obtain ⟨hk0, hk8⟩ := width_le _ hk
  unfold poolAt
  have e : ∀ x : Fin 160, (x10 (ix3 ⟨c / 128, by omega⟩ ⟨r.val % 128, by omega⟩ x) : EReal) *
      ub (BitVec.ofNat 32 i) x3 x4 x5 (128 * (r.val / 128) + x.val) ⟨c, hc⟩ =
      ((bandReal (c / 128) (r.val % 128) x.val * pad (w ⟨c, hc⟩) (x.val + (512 * i + 128 * (r.val / 128))) : ℝ) : EReal) := fun x => by
    rw [h10, ub_value w hz i hi x3 x4 x5 h3 h4 h5 _ (by omega), EReal.coe_mul]
    exact congrArg (fun p => _ * ((pad (w ⟨c, hc⟩) p : ℝ) : EReal)) (by omega)
  rw [Finset.sum_congr rfl fun x _ => e x, ← coe_sum]
  refine congrArg _ ?_
  rw [Fin.sum_univ_eq_sum_range (fun x => bandReal (c / 128) (r.val % 128) x * pad (w ⟨c, hc⟩) (x + (512 * i + 128 * (r.val / 128)))) 160,
    band_sum (fun x => pad (w ⟨c, hc⟩) (x + (512 * i + 128 * (r.val / 128)))) _ _ hk (by omega),
    Finset.sum_Ico_add' (fun x => pad (w ⟨c, hc⟩) x)]
  unfold pooled
  rw [winSum_eq_pad _ (hz ⟨c, hc⟩) _ _ (by omega), winLen_inner _ _ h1 h2,
    show r.val % 128 + 16 - 2 ^ (c / 128) + (512 * i + 128 * (r.val / 128)) = 512 * i + r.val + 16 - 2 ^ (c / 128) by omega,
    show r.val % 128 + 16 + 2 ^ (c / 128) + (512 * i + 128 * (r.val / 128)) = 512 * i + r.val + 16 + 2 ^ (c / 128) by omega,
    show r.val % 128 + 16 + (512 * i + 128 * (r.val / 128)) = 512 * i + r.val + 16 by omega, pad_add]
  push_cast
  rfl

/-- A tile's mixed rows: gated heads on the left, pooled columns on the right. -/
def mixedAt (r c : ℕ) : EReal :=
  if h : r < 512 ∧ c < 1024 then
    if h2 : c < 512 then headAt x1 x2 x7 ⟨r, h.1⟩ c h2
    else ((pooled (w ⟨c - 512, by omega⟩) (2 ^ ((c - 512) / 128)) (512 * i + r) : ℝ) : EReal)
  else 0

include hz hi h3 h4 h5 h10 in
/-- The plain blocks, wherever the window is whole. -/
theorem plain_value (r : Fin 512) (c : Fin 1024) (h : c.val < 512 ∨ (8 ≤ 512 * i + r.val ∧ 512 * i + r.val + 8 ≤ 4096)) :
    View.canon (plainPieces (BitVec.ofNat 32 i) x1 x2 x3 x4 x5 x7 x10) (ix2 r c) = mixedAt w i x1 x2 x7 r.val c.val := by
  refine (plain_at _ x1 x2 x3 x4 x5 x7 x10 r c).trans ?_
  unfold mixedAt
  rw [dif_pos ⟨r.isLt, c.isLt⟩]
  by_cases h2 : c.val < 512
  · rw [dif_pos h2]
    exact dif_pos (c := c.val < 512) h2
  · rw [dif_neg h2]
    refine (dif_neg (c := c.val < 512) h2).trans ?_
    have hk : (c.val - 512) / 128 < 4 := by omega
    obtain ⟨hk0, hk8⟩ := width_le _ hk
    exact pool_value w hz i hi x3 x4 x5 x10 h3 h4 h5 h10 r (c.val - 512) (by omega) (by omega) (by omega)

/-- The right half of `mixedAt` at level `k`. -/
theorem mixed_level (k : ℕ) (hk : k < 4) (r : ℕ) (hr : r < 512) (q : Fin 128) :
    mixedAt w i x1 x2 x7 r (512 + 128 * k + q.val) = ((pooled (w ⟨128 * k + q.val, by omega⟩) (2 ^ k) (512 * i + r) : ℝ) : EReal) := by
  unfold mixedAt
  rw [dif_pos ⟨hr, by omega⟩, dif_neg (by omega)]
  have e1 : (⟨512 + 128 * k + q.val - 512, by omega⟩ : Fin 512) = ⟨128 * k + q.val, by omega⟩ :=
    Fin.ext (by show 512 + 128 * k + q.val - 512 = 128 * k + q.val; omega)
  have e2 : (512 + 128 * k + q.val - 512) / 128 = k := by omega
  rw [e1, e2]

include hz h10 in
/-- A sequence's first tile. -/
theorem first_value (h3 : ∀ (r c : Fin 512), (x3 (ix3 0 r c) : EReal) = ((w c (512 * 0 + r.val) : ℝ) : EReal))
    (h5 : ∀ (r : Fin 16) (c : Fin 512), (x5 (ix3 0 r c) : EReal) = ((w c (512 * 0 + 512 + r.val) : ℝ) : EReal)) (r : Fin 512) (c : Fin 1024) :
    View.canon (topPieces 0#32 x3 x4 ++ plainPieces 0#32 x1 x2 x3 x4 x5 x7 x10) (ix2 r c) = mixedAt w 0 x1 x2 x7 r.val c.val := by
  have hub := ub_value w hz 0 (by decide) x3 x4 x5 h3 (fun h => absurd h (by decide)) (fun _ => h5)
  have hv : ∀ (y : Fin 48) (c : Fin 512), loadOf (a := 48) (b := 512) (stores2 0#32 x3 x4) 0 0 inb_S544x512_S48x512_0_0 (ix2 y c) =
      (fun y c => ub 0#32 x3 x4 x5 (0 + y) c) y.val c := fun y c => by
    refine (load2_at 0#32 x3 x4 x5 0 0 inb_S544x512_S48x512_0_0 (by decide) y c (by omega)).trans ?_
    exact congrArg (ub 0#32 x3 x4 x5 (0 + y.val)) (Fin.ext (Nat.zero_add _))
  have edge : ∀ (k : ℕ) (hk : k < 4) (r : Fin 16) (q : Fin 128),
      edgeAt (fun y c => ub 0#32 x3 x4 x5 (0 + y) c) 0#32 0#32 (2 ^ k) r ⟨128 * k + q.val, by omega⟩ =
        mixedAt w 0 x1 x2 x7 (0 + r.val) (512 + 128 * k + q.val) := fun k hk r q => by
    obtain ⟨hk0, hk8⟩ := width_le k hk
    rw [mixed_level w 0 x1 x2 x7 k hk _ (by omega)]
    refine (edge_value (w ⟨128 * k + q.val, by omega⟩) (hz _) _ _ _ (2 ^ k) 0 r _ hk0 hk8 (by omega) (fun y hy => ?_)
      (count_first ⟨k, hk⟩ r)).trans ?_
    · refine (hub (0 + y) (by omega) _).trans ?_
      exact congrArg (fun p => ((pad (w ⟨128 * k + q.val, by omega⟩) p : ℝ) : EReal)) (by omega)
    · exact congrArg (fun p => ((pooled (w ⟨128 * k + q.val, by omega⟩) (2 ^ k) p : ℝ) : EReal)) (by omega)
  refine ends_at 0 _ _ _ _ _ _ _ _ _ _ (by decide) (fun r q => ?_) (fun r q => ?_) (fun r q => ?_) (fun r q => ?_) (fun r c h => ?_) r c
  · exact (top0_at 0#32 _ _ hv r q).trans (edge 0 (by decide) r q)
  · exact (top1_at 0#32 _ _ hv r q).trans (edge 1 (by decide) r q)
  · exact (top2_at 0#32 _ _ hv r q).trans (edge 2 (by decide) r q)
  · exact (top3_at 0#32 _ _ hv r q).trans (edge 3 (by decide) r q)
  · exact plain_value w hz 0 (by decide) x1 x2 x3 x4 x5 x7 x10 h3 (fun h => absurd h (by decide)) (fun _ => h5) h10 r c (by omega)

include hz h10 in
/-- A sequence's last tile. -/
theorem last_value (h3 : ∀ (r c : Fin 512), (x3 (ix3 0 r c) : EReal) = ((w c (512 * 7 + r.val) : ℝ) : EReal))
    (h4 : ∀ (r : Fin 16) (c : Fin 512), (x4 (ix3 0 r c) : EReal) = ((w c (512 * 7 - 16 + r.val) : ℝ) : EReal)) (r : Fin 512) (c : Fin 1024) :
    View.canon (bottomPieces 7#32 x3 x4 x5 ++ plainPieces 7#32 x1 x2 x3 x4 x5 x7 x10) (ix2 r c) = mixedAt w 7 x1 x2 x7 r.val c.val := by
  have hub := ub_value w hz 7 (by decide) x3 x4 x5 h3 (fun _ => h4) (fun h => absurd h (by decide))
  have hv : ∀ (y : Fin 48) (c : Fin 512), loadOf (a := 48) (b := 512) (stores3 7#32 x3 x4 x5) 496 0 inb_S544x512_S48x512_496_0 (ix2 y c) =
      (fun y c => ub 7#32 x3 x4 x5 (496 + y) c) y.val c := fun y c => by
    refine (load3_at 7#32 x3 x4 x5 496 0 inb_S544x512_S48x512_496_0 y c (by omega) (by omega)).trans ?_
    exact congrArg (ub 7#32 x3 x4 x5 (496 + y.val)) (Fin.ext (Nat.zero_add _))
  have edge : ∀ (k : ℕ) (hk : k < 4) (r : Fin 16) (q : Fin 128),
      edgeAt (fun y c => ub 7#32 x3 x4 x5 (496 + y) c) 7#32 496#32 (2 ^ k) r ⟨128 * k + q.val, by omega⟩ =
        mixedAt w 7 x1 x2 x7 (496 + r.val) (512 + 128 * k + q.val) := fun k hk r q => by
    obtain ⟨hk0, hk8⟩ := width_le k hk
    rw [mixed_level w 7 x1 x2 x7 k hk _ (by omega)]
    refine (edge_value (w ⟨128 * k + q.val, by omega⟩) (hz _) _ _ _ (2 ^ k) 4080 r _ hk0 hk8 (by omega) (fun y hy => ?_)
      (count_last ⟨k, hk⟩ r)).trans ?_
    · refine (hub (496 + y) (by omega) _).trans ?_
      exact congrArg (fun p => ((pad (w ⟨128 * k + q.val, by omega⟩) p : ℝ) : EReal)) (by omega)
    · exact congrArg (fun p => ((pooled (w ⟨128 * k + q.val, by omega⟩) (2 ^ k) p : ℝ) : EReal)) (by omega)
  refine ends_at 496 _ _ _ _ _ _ _ _ _ _ (by decide) (fun r q => ?_) (fun r q => ?_) (fun r q => ?_) (fun r q => ?_) (fun r c h => ?_) r c
  · exact (bottom0_at 7#32 _ _ hv r q).trans (edge 0 (by decide) r q)
  · exact (bottom1_at 7#32 _ _ hv r q).trans (edge 1 (by decide) r q)
  · exact (bottom2_at 7#32 _ _ hv r q).trans (edge 2 (by decide) r q)
  · exact (bottom3_at 7#32 _ _ hv r q).trans (edge 3 (by decide) r q)
  · exact plain_value w hz 7 (by decide) x1 x2 x3 x4 x5 x7 x10 h3 (fun _ => h4) (fun h => absurd h (by decide)) h10 r c (by omega)

end
end Cert.Outffn
-- ==== Proof.Outffn.Blocks.lean ====
module

public import proofs.«01_k».proof.Proof.Outffn.MixedA
public import Idealize.ShloMosaic.Lib.Pointwise

@[expose] public section

/-! # The blocks a grid point reads

Point `t` mixes tile `min t 63` and outputs tile `t - 1`; a tile is 512 rows of one sequence, eight
tiles to a sequence. -/

noncomputable section
open Idealize.ShloMosaic Idealize.ShloMosaic.TcCoe Idealize.SL.Sem

namespace Cert.Outffn
open Cert.KernelIdeal Cert.KernelIdeal.Gen

theorem idx0 : ∀ t : Fin cfg0.N, win0_0.index t = ![(t.val - 1) / 8, (t.val - 1) % 8, 0] := (by decide +kernel : ∀ t : Fin grid0.N, _)
theorem idx1 : ∀ t : Fin cfg0.N, win0_1.index t = ![min t.val 63 / 8, 0, min t.val 63 % 8, 0] := (by decide +kernel : ∀ t : Fin grid0.N, _)
theorem idx2 : ∀ t : Fin cfg0.N, win0_2.index t = ![min t.val 63 / 8, min t.val 63 % 8, 0] := (by decide +kernel : ∀ t : Fin grid0.N, _)
theorem idx3 : ∀ t : Fin cfg0.N, win0_3.index t = ![min t.val 63 / 8, min t.val 63 % 8, 0] := (by decide +kernel : ∀ t : Fin grid0.N, _)
theorem idx4 : ∀ t : Fin cfg0.N, win0_4.index t = ![min t.val 63 / 8, min t.val 63 % 8 * 32 - 1, 0] := (by decide +kernel : ∀ t : Fin grid0.N, _)
theorem idx5 : ∀ t : Fin cfg0.N, win0_5.index t = ![min t.val 63 / 8, min ((min t.val 63 % 8 + 1) * 32) 255, 0] := (by decide +kernel : ∀ t : Fin grid0.N, _)
theorem idx6 : ∀ t : Fin cfg0.N, win0_6.index t = ![(t.val - 1) / 8, 0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![0, 0] := (by decide +kernel : ∀ t : Fin grid0.N, _)
theorem idx10 : ∀ t : Fin cfg0.N, win0_10.index t = ![0, 0, 0] := (by decide +kernel : ∀ t : Fin grid0.N, _)
theorem idx11 : ∀ t : Fin cfg0.N, win0_11.index t = ![0, 0] := (by decide +kernel : ∀ t : Fin grid0.N, _)
theorem idx12 : ∀ t : Fin cfg0.N, win0_12.index t = ![0, 0] := (by decide +kernel : ∀ t : Fin grid0.N, _)
theorem idx13 : ∀ t : Fin cfg0.N, win0_13.index t = ![0, 0] := (by decide +kernel : ∀ t : Fin grid0.N, _)
theorem idx14 : ∀ t : Fin cfg0.N, win0_14.index t = ![0, 0] := (by decide +kernel : ∀ t : Fin grid0.N, _)
theorem idx15 : ∀ t : Fin cfg0.N, win0_15.index t = ![(t.val - 1) / 8, (t.val - 1) % 8, 0] := (by decide +kernel : ∀ t : Fin grid0.N, _)

theorem tile_at : ∀ t : Fin cfg0.N, tileWord (grid0.coords t 0) = BitVec.ofNat 32 (t.val % 8) := (by decide +kernel : ∀ t : Fin grid0.N, _)

variable (m : (ℓ : Loc nD τ sig) → Buf (Elt Ideal) ℓ) (c : Dev nD)

section
variable (t : Fin cfg0.N) (b i : ℕ) (hb : b < 8) (hi : i < 8)

section
variable (ht : min t.val 63 = b * 8 + i)
include hb hi ht

theorem blk1 (h : Fin 4) (r : Fin 512) (e : Fin 128) :
    iblk m c 1 t (ix4 0 h r e) = m ((c : Thread nD τ).loc main_arg1) (ix4 ⟨b, hb⟩ h ⟨512 * i + r.val, by omega⟩ e) := by
  have q : min t.val 63 / 8 = b := by omega
  have q2 : min t.val 63 % 8 = i := by omega
  blk_ext! [iblk, V, idx1 t, q, q2]

theorem blk2 (r q : Fin 512) :
    iblk m c 2 t (ix3 0 r q) = m ((c : Thread nD τ).loc main_arg2) (ix3 ⟨b, hb⟩ ⟨512 * i + r.val, by omega⟩ q) := by
  have q : min t.val 63 / 8 = b := by omega
  have q2 : min t.val 63 % 8 = i := by omega
  blk_ext! [iblk, V, idx2 t, q, q2]

theorem blk3 (r q : Fin 512) :
    iblk m c 3 t (ix3 0 r q) = m ((c : Thread nD τ).loc main_arg3) (ix3 ⟨b, hb⟩ ⟨512 * i + r.val, by omega⟩ q) := by
  have q : min t.val 63 / 8 = b := by omega
  have q2 : min t.val 63 % 8 = i := by omega
  blk_ext! [iblk, V, idx3 t, q, q2]

theorem blk4 (h0 : 0 < i) (r : Fin 16) (q : Fin 512) :
    iblk m c 4 t (ix3 0 r q) = m ((c : Thread nD τ).loc main_arg3) (ix3 ⟨b, hb⟩ ⟨512 * i - 16 + r.val, by omega⟩ q) := by
  have q : min t.val 63 / 8 = b := by omega
  have q2 : min t.val 63 % 8 = i := by omega
  blk_ext! [iblk, V, idx4 t, q, q2]

theorem blk5 (h7 : i < 7) (r : Fin 16) (q : Fin 512) :
    iblk m c 5 t (ix3 0 r q) = m ((c : Thread nD τ).loc main_arg3) (ix3 ⟨b, hb⟩ ⟨512 * i + 512 + r.val, by omega⟩ q) := by
  have q : min t.val 63 / 8 = b := by omega
  have q2 : min ((min t.val 63 % 8 + 1) * 32) 255 = (i + 1) * 32 := by omega
  blk_ext! [iblk, V, idx5 t, q, q2]

end

section
variable (ht : t.val - 1 = b * 8 + i)
include hb hi ht

theorem blk0 (r : Fin 512) (q : Fin 1024) :
    iblk m c 0 t (ix3 0 r q) = m ((c : Thread nD τ).loc main_arg0) (ix3 ⟨b, hb⟩ ⟨512 * i + r.val, by omega⟩ q) := by
  have q : (t.val - 1) / 8 = b := by omega
  have q2 : (t.val - 1) % 8 = i := by omega
  blk_ext! [iblk, V, idx0 t, q, q2]

theorem blk6 (j : Fin 6) (q : Fin 1024) :
    iblk m c 6 t (ix3 0 j q) = m ((c : Thread nD τ).loc main_arg4) (ix3 ⟨b, hb⟩ j q) := by
  have q : (t.val - 1) / 8 = b := by omega
  have q2 : (t.val - 1) % 8 = i := by omega
  blk_ext! [iblk, V, idx6 t, q, q2]

end
end

section
variable (t : Fin cfg0.N)

theorem blk7 (q : Fin 512) : iblk m c 7 t (ix2 0 q) = m ((c : Thread nD τ).loc main_arg5) (ix1 q) := by
  blk_ext! [iblk, V, idx7 t]

theorem blk8 (q : Fin 1024) : iblk m c 8 t (ix2 0 q) = m ((c : Thread nD τ).loc main_arg6) (ix1 q) := by
  blk_ext! [iblk, V, idx8 t]

theorem blk9 (q : Fin 1024) : iblk m c 9 t (ix2 0 q) = m ((c : Thread nD τ).loc main_arg7) (ix1 q) := by
  blk_ext! [iblk, V, idx9 t]

theorem blk10 (k : Fin 4) (r : Fin 128) (x : Fin 160) :
    iblk m c 10 t (ix3 k r x) = (FloatOps.ofBits (F := Ideal) .bf16 (lit0 (S4x128x160.rowMajor (ix3 k r x))) : EReal) := by
  blk_ext! [iblk, V, idx10 t]

theorem blk11 (k q : Fin 1024) : iblk m c 11 t (ix2 k q) = m ((c : Thread nD τ).loc main_arg8) (ix2 k q) := by
  blk_ext! [iblk, V, idx11 t]

theorem blk12 (k : Fin 512) (q : Fin 1024) : iblk m c 12 t (ix2 k q) = m ((c : Thread nD τ).loc main_arg9) (ix2 k q) := by
  blk_ext! [iblk, V, idx12 t]

theorem blk13 (k : Fin 1024) (q : Fin 4096) : iblk m c 13 t (ix2 k q) = m ((c : Thread nD τ).loc main_arg10) (ix2 k q) := by
  blk_ext! [iblk, V, idx13 t]

theorem blk14 (k : Fin 4096) (q : Fin 1024) : iblk m c 14 t (ix2 k q) = m ((c : Thread nD τ).loc main_arg11) (ix2 k q) := by
  blk_ext! [iblk, V, idx14 t]

end
end Cert.Outffn
-- ==== Proof.Outffn.Scratch.lean ====
module

public import proofs.«01_k».proof.Proof.Outffn.Mixed
public import proofs.«01_k».proof.Proof.Outffn.Values
public import proofs.«01_k».proof.Proof.Outffn.Blocks

@[expose] public section

/-! # The mixed rows each point leaves behind

After point `t < 64` the scratch holds tile `t`'s mixed rows, in whichever of the kernel's cases the
point falls. -/

noncomputable section
open Idealize.ShloMosaic Idealize.ShloMosaic.TcCoe Idealize.SL.Sem

namespace Cert.Outffn
open Cert.KernelIdeal Cert.KernelIdeal.Gen

variable (m : (ℓ : Loc nD τ sig) → Buf (Elt Ideal) ℓ) (c : Dev nD)

/-- The pooling input. -/
abbrev poolIn : Vec Ideal Cert.ReferenceIdeal.S8x4096x512 .bf16 := m ((c : Thread nD τ).loc main_arg3)

theorem scratch_at (hu : Finite (poolIn m c)) (t : Fin cfg0.N) (b i : ℕ) (hb : b < 8) (hi : i < 8) (ht : t.val = b * 8 + i)
    (r : Fin 512) (q : Fin 1024) :
    (outsAt0 m c t.val t.isLt).2 (ix2 r q) =
      mixedAt (column (poolIn m c) ⟨b, hb⟩) i (iblk m c 1 t) (iblk m c 2 t) (iblk m c 7 t) r.val q.val := by
  have hm : min t.val 63 = b * 8 + i := by omega
  have hz : ∀ (c' : Fin 512) j, 4096 ≤ j → column (poolIn m c) ⟨b, hb⟩ c' j = 0 := fun c' j h => column_zero _ _ _ _ h
  have h3 : ∀ (r c' : Fin 512), (iblk m c 3 t (ix3 0 r c') : EReal) = ((column (poolIn m c) ⟨b, hb⟩ c' (512 * i + r.val) : ℝ) : EReal) :=
    fun r c' => (blk3 m c t b i hb hi hm r c').trans (column_coe _ hu _ _ _)
  have h4 : 0 < i → ∀ (r : Fin 16) (c' : Fin 512),
      (iblk m c 4 t (ix3 0 r c') : EReal) = ((column (poolIn m c) ⟨b, hb⟩ c' (512 * i - 16 + r.val) : ℝ) : EReal) :=
    fun h r c' => (blk4 m c t b i hb hi hm h r c').trans (column_coe _ hu _ _ _)
  have h5 : i < 7 → ∀ (r : Fin 16) (c' : Fin 512),
      (iblk m c 5 t (ix3 0 r c') : EReal) = ((column (poolIn m c) ⟨b, hb⟩ c' (512 * i + 512 + r.val) : ℝ) : EReal) :=
    fun h r c' => (blk5 m c t b i hb hi hm h r c').trans (column_coe _ hu _ _ _)
  have h10 : ∀ (k : Fin 4) (r : Fin 128) (x : Fin 160), (iblk m c 10 t (ix3 k r x) : EReal) = ((bandReal k.val r.val x.val : ℝ) : EReal) :=
    fun k r x => (blk10 m c t k r x).trans (literal_value k r x)
  have hw : tileWord (grid0.coords t 0) = BitVec.ofNat 32 i := (tile_at t).trans (congrArg _ (by omega))
  by_cases i0 : i = 0
  · subst i0
    by_cases b0 : b = 0
    · subst b0
      rw [outsAt0_A m c t (by omega) (by omega) (by omega) (by omega)]
      dsimp only
      rw [mixed_A, hw]
      exact first_value _ hz _ _ _ _ _ _ _ h10 h3 (h5 (by decide)) r q
    · rw [outsAt0_D m c t (by omega) (by omega) (by omega) (by omega)]
      dsimp only
      rw [mixed_D, hw]
      exact first_value _ hz _ _ _ _ _ _ _ h10 h3 (h5 (by decide)) r q
  · by_cases i7 : i = 7
    · subst i7
      rw [outsAt0_C m c t (by omega) (by omega) (by omega) (by omega)]
      dsimp only
      rw [mixed_C, hw]
      exact last_value _ hz _ _ _ _ _ _ _ h10 h3 (h4 (by decide)) r q
    · rw [outsAt0_B m c t (by omega) (by omega) (by omega) (by omega)]
      dsimp only
      rw [mixed_B, hw]
      exact plain_value _ hz i hi _ _ _ _ _ _ _ h3 h4 h5 h10 r q (by omega)

end Cert.Outffn
-- ==== Proof.Outffn.OutStage.lean ====
/-
  What the kernel's output stage computes: the block it stores is, row by row, the output row of the specification.
-/
module

public import proofs.«01_k».proof.Proof.Outffn.Spec
public import proofs.«01_k».proof.Proof.Gen.KernelIdeal.Value
public import Idealize.ShloMosaic.Lib.Pointwise

@[expose] public section

noncomputable section

open Idealize.ShloMosaic Idealize.ShloMosaic.TcCoe Idealize.SL.Sem

namespace Cert.Outffn

open Cert.KernelIdeal Cert.KernelIdeal.Gen

/-- The residual block after the mixer. -/
theorem mix_at (a : Vec Ideal S1x1x1024 .f32) (b : Vec Ideal S512x512 .bf16) (c : Vec Ideal S512x1024 .bf16)
    (d : Vec Ideal S512x512 .bf16) (e : Vec Ideal S512x1024 .bf16) (f : Vec Ideal S1x512x1024 .f32) (r : Fin 512) (q : Fin 1024) :
    k0_pay86 (F := Ideal) a b c d e f (ix2 r q)
      = mix (fun i => f (ix3 0 r i)) (fun i => a (ix3 0 0 i)) (fun k => b (ix2 r k)) (fun k => d (ix2 r k))
          (fun k i => c (ix2 k i)) (fun k i => e (ix2 k i)) q := by
  unfold k0_pay86 mix
  pointwise

/-- Its rows over their root mean square. -/
theorem norm_at (a : Vec Ideal S1x1x1024 .f32) (b : Vec Ideal S512x512 .bf16) (c : Vec Ideal S512x1024 .bf16)
    (d : Vec Ideal S512x512 .bf16) (e : Vec Ideal S512x1024 .bf16) (f : Vec Ideal S1x512x1024 .f32) (r : Fin 512) (q : Fin 1024) :
    k0_pay90 (F := Ideal) a b c d e f (ix2 r q) = rms rowLen (fun i => k0_pay86 (F := Ideal) a b c d e f (ix2 r i)) q := by
  unfold k0_pay90 rms rowLen
  generalize k0_pay86 (F := Ideal) a b c d e f = X
  pointwise

/-- The feed-forward's input block. -/
theorem ffnIn_at (sh sc : Vec Ideal S1x1x1024 .f32) (v : FVec Ideal S512x1024 .f32) (g : Vec Ideal S1x1024 .f32) (r : Fin 512) (q : Fin 1024) :
    k0_pay91 (F := Ideal) (k0_pay87 sh) (k0_pay88 sc) v g (ix2 r q)
      = v (ix2 r q) * g (ix2 0 q) * (Ideal.ofBits FTy.f32 0x3F800000#32 + sc (ix3 0 0 q)) + sh (ix3 0 0 q) := by
  unfold k0_pay91 k0_pay87 k0_pay88
  pointwise

/-- The first two blocks of hidden features, through both products. -/
theorem ffn12_at (sh sc : FVec Ideal S1x1024 .f32) (v : FVec Ideal S512x1024 .f32) (g : Vec Ideal S1x1024 .f32)
    (w1 w2 w3 w4 : Vec Ideal S1024x1024 .bf16) (r : Fin 512) (q : Fin 1024) :
    k0_pay92 (F := Ideal) sh sc v g w1 w2 w3 w4 (ix2 r q)
      = (∑ j : Fin 1024, hidden (fun i => k0_pay91 (F := Ideal) sh sc v g (ix2 r i)) (fun i j => w1 (ix2 i j)) j * w2 (ix2 j q))
        + ∑ j : Fin 1024, hidden (fun i => k0_pay91 (F := Ideal) sh sc v g (ix2 r i)) (fun i j => w3 (ix2 i j)) j * w4 (ix2 j q) := by
  unfold k0_pay92 hidden
  generalize k0_pay91 (F := Ideal) sh sc v g = H
  pointwise

/-- The third block of hidden features. -/
theorem hidden3_at (sh sc : FVec Ideal S1x1024 .f32) (v : FVec Ideal S512x1024 .f32) (g : Vec Ideal S1x1024 .f32)
    (w : Vec Ideal S1024x1024 .bf16) (r : Fin 512) (j : Fin 1024) :
    k0_pay93 (F := Ideal) sh sc v g w (ix2 r j)
      = hidden (fun i => k0_pay91 (F := Ideal) sh sc v g (ix2 r i)) (fun i j => w (ix2 i j)) j := by
  unfold k0_pay93 hidden
  generalize k0_pay91 (F := Ideal) sh sc v g = H
  pointwise

/-- The stored block: the third and fourth blocks of hidden features added, the residual closed and normalised. -/
theorem close_at (v : FVec Ideal S512x1024 .f32) (g2 : Vec Ideal S1x1x1024 .f32) (H : FVec Ideal S512x1024 .bf16) (A : FVec Ideal S512x1024 .f32)
    (B : FVec Ideal S512x1024 .bf16) (w5 w6 w7 : Vec Ideal S1024x1024 .bf16) (gl : Vec Ideal S1x1024 .f32) (r : Fin 512) (q : Fin 1024) :
    k0_pay94 (F := Ideal) v (k0_pay89 g2) H A B w5 (constant S512x1024 .f32 0x00000000#32) w6 w7 gl (ix3 0 r q)
      = rms rowLen (fun i => v (ix2 r i) + g2 (ix3 0 0 i) * ((A (ix2 r i) + ∑ j : Fin 1024, B (ix2 r j) * w5 (ix2 j i))
          + ∑ j : Fin 1024, hidden (fun e => H (ix2 r e)) (fun e j => w6 (ix2 e j)) j * w7 (ix2 j i))) q * gl (ix2 0 q) := by
  unfold k0_pay94 k0_pay89 rms rowLen hidden
  pointwise

/-- A sum over the 4096 hidden features is the sum of its four blocks of 1024. -/
theorem four_blocks (f : Fin 4096 → EReal) :
    ∑ j, f j = (∑ j : Fin 1024, f ⟨j.val, by omega⟩) + (∑ j : Fin 1024, f ⟨1024 + j.val, by omega⟩)
      + (∑ j : Fin 1024, f ⟨2048 + j.val, by omega⟩) + ∑ j : Fin 1024, f ⟨3072 + j.val, by omega⟩ := by
  have e : ∀ (a : ℕ) (g g' : Fin 1024 → Fin 4096), (∀ j, (g j).val = (g' j).val) → ∑ j, f (g j) = ∑ j, f (g' j) := by
    intro _ g g' h
    exact Finset.sum_congr rfl fun j _ => congrArg f (Fin.ext (h j))
  rw [Fin.sum_univ_tiles 4 1024 rfl, Fin.sum_univ_four]
  refine congrArg₂ _ (congrArg₂ _ (congrArg₂ _ (e 0 _ _ fun j => ?_) (e 0 _ _ fun j => ?_)) (e 0 _ _ fun j => ?_)) (e 0 _ _ fun j => ?_)
  · show 0 * 1024 + j.val = j.val; omega
  · show 1 * 1024 + j.val = 1024 + j.val; omega
  · show 2 * 1024 + j.val = 2048 + j.val; omega
  · show 3 * 1024 + j.val = 3072 + j.val; omega

/-- The block stored by the output stage, from its input blocks and the mixed rows `xs`. -/
def stored (x0 : Vec Ideal S1x512x1024 .f32) (x6 : Vec Ideal S1x6x1024 .f32) (x8 x9 : Vec Ideal S1x1024 .f32) (x11 : Vec Ideal S1024x1024 .bf16)
    (x12 : Vec Ideal S512x1024 .bf16) (x13 : Vec Ideal S1024x4096 .bf16) (x14 : Vec Ideal S4096x1024 .bf16) (xs1 : Vec Ideal S512x1024 .bf16) :
    Vec Ideal S1x512x1024 .f32 :=
  k0_pay94 (k0_pay86 (View.ld x6 (Rect.unit ![0, 2, 0] ![1, 1, 1024] inb_S1x6x1024_S1x1x1024_0_2_0)) (View.ld xs1 (Rect.unit ![0, 0] ![512, 512] inb_S512x1024_S512x512_0_0)) (View.ld x11 (Rect.unit ![0, 0] ![512, 1024] inb_S1024x1024_S512x1024_0_0)) (View.ld xs1 (Rect.unit ![0, 512] ![512, 512] inb_S512x1024_S512x512_0_512)) x12 x0) (k0_pay89 (View.ld x6 (Rect.unit ![0, 5, 0] ![1, 1, 1024] inb_S1x6x1024_S1x1x1024_0_5_0))) (k0_pay91 (k0_pay87 (View.ld x6 (Rect.unit ![0, 3, 0] ![1, 1, 1024] inb_S1x6x1024_S1x1x1024_0_3_0))) (k0_pay88 (View.ld x6 (Rect.unit ![0, 4, 0] ![1, 1, 1024] inb_S1x6x1024_S1x1x1024_0_4_0))) (k0_pay90 (View.ld x6 (Rect.unit ![0, 2, 0] ![1, 1, 1024] inb_S1x6x1024_S1x1x1024_0_2_0)) (View.ld xs1 (Rect.unit ![0, 0] ![512, 512] inb_S512x1024_S512x512_0_0)) (View.ld x11 (Rect.unit ![0, 0] ![512, 1024] inb_S1024x1024_S512x1024_0_0)) (View.ld xs1 (Rect.unit ![0, 512] ![512, 512] inb_S512x1024_S512x512_0_512)) x12 x0) x8) (k0_pay92 (k0_pay87 (View.ld x6 (Rect.unit ![0, 3, 0] ![1, 1, 1024] inb_S1x6x1024_S1x1x1024_0_3_0))) (k0_pay88 (View.ld x6 (Rect.unit ![0, 4, 0] ![1, 1, 1024] inb_S1x6x1024_S1x1x1024_0_4_0))) (k0_pay90 (View.ld x6 (Rect.unit ![0, 2, 0] ![1, 1, 1024] inb_S1x6x1024_S1x1x1024_0_2_0)) (View.ld xs1 (Rect.unit ![0, 0] ![512, 512] inb_S512x1024_S512x512_0_0)) (View.ld x11 (Rect.unit ![0, 0] ![512, 1024] inb_S1024x1024_S512x1024_0_0)) (View.ld xs1 (Rect.unit ![0, 512] ![512, 512] inb_S512x1024_S512x512_0_512)) x12 x0) x8 (View.ld x13 (Rect.unit ![0, 0] ![1024, 1024] inb_S1024x4096_S1024x1024_0_0)) (View.ld x14 (Rect.unit ![0, 0] ![1024, 1024] inb_S4096x1024_S1024x1024_0_0)) (View.ld x13 (Rect.unit ![0, 1024] ![1024, 1024] inb_S1024x4096_S1024x1024_0_1024)) (View.ld x14 (Rect.unit ![1024, 0] ![1024, 1024] inb_S4096x1024_S1024x1024_1024_0))) (k0_pay93 (k0_pay87 (View.ld x6 (Rect.unit ![0, 3, 0] ![1, 1, 1024] inb_S1x6x1024_S1x1x1024_0_3_0))) (k0_pay88 (View.ld x6 (Rect.unit ![0, 4, 0] ![1, 1, 1024] inb_S1x6x1024_S1x1x1024_0_4_0))) (k0_pay90 (View.ld x6 (Rect.unit ![0, 2, 0] ![1, 1, 1024] inb_S1x6x1024_S1x1x1024_0_2_0)) (View.ld xs1 (Rect.unit ![0, 0] ![512, 512] inb_S512x1024_S512x512_0_0)) (View.ld x11 (Rect.unit ![0, 0] ![512, 1024] inb_S1024x1024_S512x1024_0_0)) (View.ld xs1 (Rect.unit ![0, 512] ![512, 512] inb_S512x1024_S512x512_0_512)) x12 x0) x8 (View.ld x13 (Rect.unit ![0, 2048] ![1024, 1024] inb_S1024x4096_S1024x1024_0_2048))) (View.ld x14 (Rect.unit ![2048, 0] ![1024, 1024] inb_S4096x1024_S1024x1024_2048_0)) (constant S512x1024 .f32 0x00000000#32) (View.ld x13 (Rect.unit ![0, 3072] ![1024, 1024] inb_S1024x4096_S1024x1024_0_3072)) (View.ld x14 (Rect.unit ![3072, 0] ![1024, 1024] inb_S4096x1024_S1024x1024_3072_0)) x9

/-- Its entry at row `r` is the output row of the specification. -/
theorem stored_at (x0 : Vec Ideal S1x512x1024 .f32) (x6 : Vec Ideal S1x6x1024 .f32) (x8 x9 : Vec Ideal S1x1024 .f32) (x11 : Vec Ideal S1024x1024 .bf16)
    (x12 : Vec Ideal S512x1024 .bf16) (x13 : Vec Ideal S1024x4096 .bf16) (x14 : Vec Ideal S4096x1024 .bf16) (xs1 : Vec Ideal S512x1024 .bf16)
    (r : Fin 512) (d : Fin 1024) :
    stored x0 x6 x8 x9 x11 x12 x13 x14 xs1 (ix3 0 r d)
      = outRow (fun i => x0 (ix3 0 r i)) (fun i => x6 (ix3 0 2 i)) (fun i => x6 (ix3 0 3 i)) (fun i => x6 (ix3 0 4 i)) (fun i => x6 (ix3 0 5 i))
          (fun i => x8 (ix2 0 i)) (fun i => x9 (ix2 0 i)) (fun k => xs1 (ix2 r ⟨k.val, by omega⟩)) (fun k => xs1 (ix2 r ⟨512 + k.val, by omega⟩))
          (fun k i => x11 (ix2 ⟨k.val, by omega⟩ i)) (fun k i => x12 (ix2 k i)) (fun i j => x13 (ix2 i j)) (fun j i => x14 (ix2 j i)) d := by
  unfold stored
  rw [close_at]
  simp only [ffn12_at, hidden3_at, ffnIn_at, norm_at, mix_at]
  pointwise
  unfold outRow ffnRes ffnIn
  simp only [four_blocks, Ideal.ofBits_one_f32]
  rfl

end Cert.Outffn
-- ==== Proof.Outffn.OutFrames.lean ====
module

public import proofs.«01_k».proof.Proof.Outffn.OutStage
public import Idealize.ShloMosaic.Lib.Pipeline.ValueKit
public import Idealize.ShloMosaic.Lib.Pipeline.ReadBack

@[expose] public section

/-! # The output block at every point but the first -/

noncomputable section
open Idealize.ShloMosaic Idealize.ShloMosaic.TcCoe Idealize.SL.Sem

namespace Cert.Outffn
open Cert.KernelIdeal Cert.KernelIdeal.Gen

/-- The output block at an inner tile: the mixed rows `xs1` of the point before, through the output stage. -/
theorem out_B (c : Dev nD) (i : grid0.Coords) (arg1 : Memref sig .tc .vmem S1x512x1024 .f32) (harg1 : arg1.IsWhole) (arg2 : Memref sig .tc .vmem S1x4x512x128 .bf16) (harg2 : arg2.IsWhole) (arg3 : Memref sig .tc .vmem S1x512x512 .bf16) (harg3 : arg3.IsWhole) (arg4 : Memref sig .tc .vmem S1x512x512 .bf16) (harg4 : arg4.IsWhole) (arg5 : Memref sig .tc .vmem S1x16x512 .bf16) (harg5 : arg5.IsWhole) (arg6 : Memref sig .tc .vmem S1x16x512 .bf16) (harg6 : arg6.IsWhole) (arg7 : Memref sig .tc .vmem S1x6x1024 .f32) (harg7 : arg7.IsWhole) (arg8 : Memref sig .tc .vmem S1x512 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S4x128x160 .bf16) (harg11 : arg11.IsWhole) (arg12 : Memref sig .tc .vmem S1024x1024 .bf16) (harg12 : arg12.IsWhole) (arg13 : Memref sig .tc .vmem S512x1024 .bf16) (harg13 : arg13.IsWhole) (arg14 : Memref sig .tc .vmem S1024x4096 .bf16) (harg14 : arg14.IsWhole) (arg15 : Memref sig .tc .vmem S4096x1024 .bf16) (harg15 : arg15.IsWhole) (arg16 : Memref sig .tc .vmem S1x512x1024 .f32) (harg16 : arg16.IsWhole) (arg17 : Memref sig .tc .vmem S544x512 .bf16) (harg17 : arg17.IsWhole) (arg18 : Memref sig .tc .vmem S512x1024 .bf16) (harg18 : arg18.IsWhole) (hc0 : ¬cond0_0 i) (hc3 : cond0_3 i) (hc4 : ¬cond0_4 i) (hc5 : ¬cond0_5 i)
    (x0 : Vec Ideal S1x512x1024 .f32) (x1 : Vec Ideal S1x4x512x128 .bf16) (x2 : Vec Ideal S1x512x512 .bf16) (x3 : Vec Ideal S1x512x512 .bf16) (x4 : Vec Ideal S1x16x512 .bf16) (x5 : Vec Ideal S1x16x512 .bf16) (x6 : Vec Ideal S1x6x1024 .f32) (x7 : Vec Ideal S1x512 .f32) (x8 : Vec Ideal S1x1024 .f32) (x9 : Vec Ideal S1x1024 .f32) (x10 : Vec Ideal S4x128x160 .bf16) (x11 : Vec Ideal S1024x1024 .bf16) (x12 : Vec Ideal S512x1024 .bf16) (x13 : Vec Ideal S1024x4096 .bf16) (x14 : Vec Ideal S4096x1024 .bf16) (xs1 : Vec Ideal S512x1024 .bf16) :
    out0_B_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc3 hc4 hc5 x0 x1 x2 x3 x4 x5 x6 x7 x8 x9 x10 x11 x12 x13 x14 xs1 = stored x0 x6 x8 x9 x11 x12 x13 x14 xs1 := by
  frame_open
  simp (disch := decide) only [↓ View.readCov_skip, ↓ View.readCov_cons_toLoadRect, ↓ View.readCov_fill]
  frame_out
  rfl

/-- The output block at a sequence's last tile: the mixed rows `xs1` of the point before, through the output stage. -/
theorem out_C (c : Dev nD) (i : grid0.Coords) (arg1 : Memref sig .tc .vmem S1x512x1024 .f32) (harg1 : arg1.IsWhole) (arg2 : Memref sig .tc .vmem S1x4x512x128 .bf16) (harg2 : arg2.IsWhole) (arg3 : Memref sig .tc .vmem S1x512x512 .bf16) (harg3 : arg3.IsWhole) (arg4 : Memref sig .tc .vmem S1x512x512 .bf16) (harg4 : arg4.IsWhole) (arg5 : Memref sig .tc .vmem S1x16x512 .bf16) (harg5 : arg5.IsWhole) (arg6 : Memref sig .tc .vmem S1x16x512 .bf16) (harg6 : arg6.IsWhole) (arg7 : Memref sig .tc .vmem S1x6x1024 .f32) (harg7 : arg7.IsWhole) (arg8 : Memref sig .tc .vmem S1x512 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S4x128x160 .bf16) (harg11 : arg11.IsWhole) (arg12 : Memref sig .tc .vmem S1024x1024 .bf16) (harg12 : arg12.IsWhole) (arg13 : Memref sig .tc .vmem S512x1024 .bf16) (harg13 : arg13.IsWhole) (arg14 : Memref sig .tc .vmem S1024x4096 .bf16) (harg14 : arg14.IsWhole) (arg15 : Memref sig .tc .vmem S4096x1024 .bf16) (harg15 : arg15.IsWhole) (arg16 : Memref sig .tc .vmem S1x512x1024 .f32) (harg16 : arg16.IsWhole) (arg17 : Memref sig .tc .vmem S544x512 .bf16) (harg17 : arg17.IsWhole) (arg18 : Memref sig .tc .vmem S512x1024 .bf16) (harg18 : arg18.IsWhole) (hc0 : ¬cond0_0 i) (hc3 : cond0_3 i) (hc4 : ¬cond0_4 i) (hc5 : cond0_5 i)
    (x0 : Vec Ideal S1x512x1024 .f32) (x1 : Vec Ideal S1x4x512x128 .bf16) (x2 : Vec Ideal S1x512x512 .bf16) (x3 : Vec Ideal S1x512x512 .bf16) (x4 : Vec Ideal S1x16x512 .bf16) (x5 : Vec Ideal S1x16x512 .bf16) (x6 : Vec Ideal S1x6x1024 .f32) (x7 : Vec Ideal S1x512 .f32) (x8 : Vec Ideal S1x1024 .f32) (x9 : Vec Ideal S1x1024 .f32) (x10 : Vec Ideal S4x128x160 .bf16) (x11 : Vec Ideal S1024x1024 .bf16) (x12 : Vec Ideal S512x1024 .bf16) (x13 : Vec Ideal S1024x4096 .bf16) (x14 : Vec Ideal S4096x1024 .bf16) (xs1 : Vec Ideal S512x1024 .bf16) :
    out0_C_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc3 hc4 hc5 x0 x1 x2 x3 x4 x5 x6 x7 x8 x9 x10 x11 x12 x13 x14 xs1 = stored x0 x6 x8 x9 x11 x12 x13 x14 xs1 := by
  frame_open
  simp (disch := decide) only [↓ View.readCov_skip, ↓ View.readCov_cons_toLoadRect, ↓ View.readCov_fill]
  frame_out
  rfl

/-- The output block at a later sequence's first tile: the mixed rows `xs1` of the point before, through the output stage. -/
theorem out_D (c : Dev nD) (i : grid0.Coords) (arg1 : Memref sig .tc .vmem S1x512x1024 .f32) (harg1 : arg1.IsWhole) (arg2 : Memref sig .tc .vmem S1x4x512x128 .bf16) (harg2 : arg2.IsWhole) (arg3 : Memref sig .tc .vmem S1x512x512 .bf16) (harg3 : arg3.IsWhole) (arg4 : Memref sig .tc .vmem S1x512x512 .bf16) (harg4 : arg4.IsWhole) (arg5 : Memref sig .tc .vmem S1x16x512 .bf16) (harg5 : arg5.IsWhole) (arg6 : Memref sig .tc .vmem S1x16x512 .bf16) (harg6 : arg6.IsWhole) (arg7 : Memref sig .tc .vmem S1x6x1024 .f32) (harg7 : arg7.IsWhole) (arg8 : Memref sig .tc .vmem S1x512 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S4x128x160 .bf16) (harg11 : arg11.IsWhole) (arg12 : Memref sig .tc .vmem S1024x1024 .bf16) (harg12 : arg12.IsWhole) (arg13 : Memref sig .tc .vmem S512x1024 .bf16) (harg13 : arg13.IsWhole) (arg14 : Memref sig .tc .vmem S1024x4096 .bf16) (harg14 : arg14.IsWhole) (arg15 : Memref sig .tc .vmem S4096x1024 .bf16) (harg15 : arg15.IsWhole) (arg16 : Memref sig .tc .vmem S1x512x1024 .f32) (harg16 : arg16.IsWhole) (arg17 : Memref sig .tc .vmem S544x512 .bf16) (harg17 : arg17.IsWhole) (arg18 : Memref sig .tc .vmem S512x1024 .bf16) (harg18 : arg18.IsWhole) (hc0 : ¬cond0_0 i) (hc3 : cond0_3 i) (hc4 : cond0_4 i) (hc5 : ¬cond0_5 i)
    (x0 : Vec Ideal S1x512x1024 .f32) (x1 : Vec Ideal S1x4x512x128 .bf16) (x2 : Vec Ideal S1x512x512 .bf16) (x3 : Vec Ideal S1x512x512 .bf16) (x4 : Vec Ideal S1x16x512 .bf16) (x5 : Vec Ideal S1x16x512 .bf16) (x6 : Vec Ideal S1x6x1024 .f32) (x7 : Vec Ideal S1x512 .f32) (x8 : Vec Ideal S1x1024 .f32) (x9 : Vec Ideal S1x1024 .f32) (x10 : Vec Ideal S4x128x160 .bf16) (x11 : Vec Ideal S1024x1024 .bf16) (x12 : Vec Ideal S512x1024 .bf16) (x13 : Vec Ideal S1024x4096 .bf16) (x14 : Vec Ideal S4096x1024 .bf16) (xs1 : Vec Ideal S512x1024 .bf16) :
    out0_D_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc3 hc4 hc5 x0 x1 x2 x3 x4 x5 x6 x7 x8 x9 x10 x11 x12 x13 x14 xs1 = stored x0 x6 x8 x9 x11 x12 x13 x14 xs1 := by
  frame_open
  simp (disch := decide) only [↓ View.readCov_skip, ↓ View.readCov_cons_toLoadRect, ↓ View.readCov_fill]
  frame_out
  rfl

end Cert.Outffn
-- ==== Proof.Outffn.RefOut.lean ====
/-
  What the reference's output stage computes: entry `(b, s, d)` of its result is the output row of the specification
  at `d`, over the reference's own gated heads and pooled rows.
-/
module

public import proofs.«01_k».proof.Proof.Outffn.Spec
public import proofs.«01_k».proof.Proof.Gen.ReferenceIdeal.Read
public import Idealize.ShloMosaic.Lib.Pointwise

@[expose] public section

noncomputable section

open Idealize.ShloMosaic Idealize.ShloMosaic.TcCoe Idealize.SL.Sem

namespace Cert.Outffn

open Cert.ReferenceIdeal Cert.ReferenceIdeal.Read

variable (x0 : (⟨S8x4096x1024, .f32⟩ : BufTy).Contents (Elt Ideal)) (x1 : (⟨S8x4x4096x128, .bf16⟩ : BufTy).Contents (Elt Ideal))
  (x2 x3 : (⟨S8x4096x512, .bf16⟩ : BufTy).Contents (Elt Ideal)) (x4 : (⟨S8x6x1024, .f32⟩ : BufTy).Contents (Elt Ideal))
  (x5 : (⟨S512, .f32⟩ : BufTy).Contents (Elt Ideal)) (x6 x7 : (⟨S1024, .f32⟩ : BufTy).Contents (Elt Ideal))
  (x8 : (⟨S1024x1024, .bf16⟩ : BufTy).Contents (Elt Ideal)) (x9 : (⟨S512x1024, .bf16⟩ : BufTy).Contents (Elt Ideal))
  (x10 : (⟨S1024x4096, .bf16⟩ : BufTy).Contents (Elt Ideal)) (x11 : (⟨S4096x1024, .bf16⟩ : BufTy).Contents (Elt Ideal))

/-- The reference's residual row after the mixer. -/
theorem ref_mix (b : Fin 8) (s : Fin 4096) (d : Fin 1024) :
    val_main_v168 (F := Ideal) x0 x1 x2 x3 x4 x5 x8 x9 (ix3 b s d)
      = mix (fun i => x0 (ix3 b s i)) (fun i => x4 (ix3 b 2 i)) (fun k => val_main_v32 (F := Ideal) x1 x2 x5 (ix3 b s k))
          (fun k => val_main_v158 (F := Ideal) x3 (ix3 b s k)) (fun k i => x8 (ix2 ⟨k.val, by omega⟩ i)) (fun k i => x9 (ix2 k i)) d := by
  unfold mix val_main_v168 val_main_v167 val_main_v164 val_main_v161 val_main_v163
  generalize val_main_v32 (F := Ideal) x1 x2 x5 = A
  generalize val_main_v158 (F := Ideal) x3 = B
  pointwise [val_main_v166, val_main_v165, val_main_v1, val_main_v0, val_main_v160, val_main_v159, val_main_v162]

/-- The reference's feed-forward input row. -/
theorem ref_ffnIn (b : Fin 8) (s : Fin 4096) (d : Fin 1024) :
    val_main_v189 (F := Ideal) x0 x1 x2 x3 x4 x5 x6 x8 x9 (ix3 b s d)
      = ffnIn (fun i => val_main_v168 (F := Ideal) x0 x1 x2 x3 x4 x5 x8 x9 (ix3 b s i)) (fun i => x6 (ix1 i))
          (fun i => x4 (ix3 b 4 i)) (fun i => x4 (ix3 b 3 i)) d := by
  unfold ffnIn rms rowLen val_main_v189 val_main_v186 val_main_v181 val_main_v178 val_main_v177 val_main_v176 val_main_v175 val_main_v173
    val_main_v171 val_main_v170 val_main_v169
  generalize val_main_v168 (F := Ideal) x0 x1 x2 x3 x4 x5 x8 x9 = V
  pointwise [val_main_v188, val_main_v187, val_main_v3, val_main_v2, val_main_v185, val_main_v184, val_main_v183, val_main_v182,
    val_main_v5, val_main_v4, val_main_v180, val_main_v179, val_main_v174, val_main_v172, val_main_cst_44, val_main_cst_45,
    val_main_cst_46, val_main_cst_47]

/-- The reference's hidden features. -/
theorem ref_hidden (b : Fin 8) (s : Fin 4096) (j : Fin 4096) :
    val_main_v193 (F := Ideal) x0 x1 x2 x3 x4 x5 x6 x8 x9 x10 (ix3 b s j)
      = hidden (fun i => val_main_v189 (F := Ideal) x0 x1 x2 x3 x4 x5 x6 x8 x9 (ix3 b s i)) (fun i j => x10 (ix2 i j)) j := by
  unfold hidden val_main_v193 val_main_v192 val_main_v191
  generalize val_main_v189 (F := Ideal) x0 x1 x2 x3 x4 x5 x6 x8 x9 = H
  pointwise [val_main_v190, val_main_call9_v0, val_main_call9_cst]

/-- The reference's residual row after the feed-forward. -/
theorem ref_ffnRes (b : Fin 8) (s : Fin 4096) (d : Fin 1024) :
    val_main_v199 (F := Ideal) x0 x1 x2 x3 x4 x5 x6 x8 x9 x10 x11 (ix3 b s d)
      = val_main_v168 (F := Ideal) x0 x1 x2 x3 x4 x5 x8 x9 (ix3 b s d)
        + x4 (ix3 b 5 d) * ∑ j, val_main_v193 (F := Ideal) x0 x1 x2 x3 x4 x5 x6 x8 x9 x10 (ix3 b s j) * x11 (ix2 j d) := by
  unfold val_main_v199 val_main_v198 val_main_v196
  generalize val_main_v168 (F := Ideal) x0 x1 x2 x3 x4 x5 x8 x9 = V
  generalize val_main_v193 (F := Ideal) x0 x1 x2 x3 x4 x5 x6 x8 x9 x10 = H
  pointwise [val_main_v197, val_main_v194, val_main_v7, val_main_v6, val_main_v195]

/-- The reference's result: its last residual row normalised and scaled. -/
theorem ref_close (b : Fin 8) (s : Fin 4096) (d : Fin 1024) :
    val_main_v212 (F := Ideal) x0 x1 x2 x3 x4 x5 x6 x7 x8 x9 x10 x11 (ix3 b s d)
      = rms rowLen (fun i => val_main_v199 (F := Ideal) x0 x1 x2 x3 x4 x5 x6 x8 x9 x10 x11 (ix3 b s i)) d * x7 (ix1 d) := by
  unfold rms rowLen val_main_v212 val_main_v209 val_main_v208 val_main_v207 val_main_v206 val_main_v204 val_main_v202 val_main_v201 val_main_v200
  generalize val_main_v199 (F := Ideal) x0 x1 x2 x3 x4 x5 x6 x8 x9 x10 x11 = V
  pointwise [val_main_v211, val_main_v210, val_main_v205, val_main_v203, val_main_cst_48, val_main_cst_49, val_main_cst_50]

/-- The reference's result, row by row. -/
theorem ref_out (b : Fin 8) (s : Fin 4096) (d : Fin 1024) :
    val_main_v212 (F := Ideal) x0 x1 x2 x3 x4 x5 x6 x7 x8 x9 x10 x11 (ix3 b s d)
      = outRow (fun i => x0 (ix3 b s i)) (fun i => x4 (ix3 b 2 i)) (fun i => x4 (ix3 b 3 i)) (fun i => x4 (ix3 b 4 i)) (fun i => x4 (ix3 b 5 i))
          (fun i => x6 (ix1 i)) (fun i => x7 (ix1 i)) (fun k => val_main_v32 (F := Ideal) x1 x2 x5 (ix3 b s k))
          (fun k => val_main_v158 (F := Ideal) x3 (ix3 b s k)) (fun k i => x8 (ix2 ⟨k.val, by omega⟩ i)) (fun k i => x9 (ix2 k i))
          (fun i j => x10 (ix2 i j)) (fun j i => x11 (ix2 j i)) d := by
  rw [ref_close]
  simp only [ref_ffnRes, ref_hidden, ref_ffnIn, ref_mix]
  rfl

end Cert.Outffn
-- ==== Proof.Outffn.RefHead.lean ====
module

public import proofs.«01_k».proof.Proof.Outffn.Pieces
public import proofs.«01_k».proof.Proof.Gen.ReferenceIdeal.Read
public import Idealize.ShloMosaic.Lib.Pointwise

@[expose] public section

/-! # The reference's gated heads -/

noncomputable section
open Idealize.ShloMosaic Idealize.ShloMosaic.TcCoe Idealize.SL.Sem

namespace Cert.Outffn
open Cert.ReferenceIdeal Cert.ReferenceIdeal.Read

theorem ref_head (x1 : Vec Ideal S8x4x4096x128 .bf16) (x2 : Vec Ideal S8x4096x512 .bf16) (x5 : Vec Ideal S512 .f32)
    (b : Fin 8) (s : Fin 4096) (c : Fin 512) :
    val_main_v32 (F := Ideal) x1 x2 x5 (ix3 b s c)
      = gated (fun e => x1 (ix4 b ⟨c.val / 128, by omega⟩ s e)) (x2 (ix3 b s c)) (x5 (ix1 c)) ⟨c.val % 128, by omega⟩ := by
  unfold gated rms headLen Ideal.logistic
  pointwise [val_main_v32, val_main_v31, val_main_v30, val_main_cst_3, val_main_v29, val_main_v28, val_main_cst_2, val_main_v27, val_main_v26, val_main_v25, val_main_v24, val_main_v23, val_main_v22, val_main_v18, val_main_v8, val_main_v17, val_main_v16, val_main_v15, val_main_v13, val_main_v11, val_main_v10, val_main_v9, val_main_cst, val_main_v12, val_main_cst_0, val_main_v14, val_main_cst_1, val_main_v21, val_main_v20, val_main_v19]

end Cert.Outffn
-- ==== Proof.Outffn.Output.lean ====
module

public import proofs.«01_k».proof.Proof.Outffn.Scratch
public import proofs.«01_k».proof.Proof.Outffn.OutFrames
public import proofs.«01_k».proof.Proof.Outffn.RefOut
public import proofs.«01_k».proof.Proof.Outffn.RefHead

@[expose] public section

/-! # The output block each point leaves

Point `t ≥ 1` finishes tile `t - 1`: it takes the mixed rows the point before left in the scratch through
the output stage.  Entry by entry that is the reference's result at the tile's row. -/

noncomputable section
open Idealize.ShloMosaic Idealize.ShloMosaic.TcCoe Idealize.SL.Sem

namespace Cert.Outffn
open Cert.KernelIdeal Cert.KernelIdeal.Gen

variable (m : (ℓ : Loc nD τ sig) → Buf (Elt Ideal) ℓ) (c : Dev nD)

/-- In each of the kernel's cases after the first point, the output block is the output stage over the scratch. -/
theorem out_at (t : Fin cfg0.N) (h1 : 1 ≤ t.val) :
    (outsAt0 m c t.val t.isLt).1 =
      stored (iblk m c 0 t) (iblk m c 6 t) (iblk m c 8 t) (iblk m c 9 t) (iblk m c 11 t) (iblk m c 12 t) (iblk m c 13 t) (iblk m c 14 t)
        (outsAt0 m c (t.val - 1) (by have := t.isLt; omega)).2 := by
  have hN : t.val < 65 := lt_of_lt_of_eq t.isLt N_0
  by_cases e0 : t.val % 8 = 0
  · rw [outsAt0_D m c t (by omega) h1 e0 (by omega)]
    dsimp only
    rw [out_D]
  · by_cases e7 : t.val % 8 = 7
    · rw [outsAt0_C m c t (by omega) h1 e0 e7]
      dsimp only
      rw [out_C]
    · rw [outsAt0_B m c t (by omega) h1 e0 e7]
      dsimp only
      rw [out_B]

/-- The output row depends on the entries of what it reads only. -/
theorem outRow_congr {x x' g1 g1' sh sh' sc sc' g2 g2' gf gf' gl gl' : Fin 1024 → EReal} {ya ya' yb yb' : Fin 512 → EReal}
    {wo wo' wf wf' : Fin 512 → Fin 1024 → EReal} {w1 w1' : Fin 1024 → Fin 4096 → EReal} {w2 w2' : Fin 4096 → Fin 1024 → EReal}
    (hx : ∀ i, x i = x' i) (hg1 : ∀ i, g1 i = g1' i) (hsh : ∀ i, sh i = sh' i) (hsc : ∀ i, sc i = sc' i) (hg2 : ∀ i, g2 i = g2' i)
    (hgf : ∀ i, gf i = gf' i) (hgl : ∀ i, gl i = gl' i) (hya : ∀ i, ya i = ya' i) (hyb : ∀ i, yb i = yb' i)
    (hwo : ∀ k i, wo k i = wo' k i) (hwf : ∀ k i, wf k i = wf' k i) (hw1 : ∀ i j, w1 i j = w1' i j) (hw2 : ∀ j i, w2 j i = w2' j i)
    (d : Fin 1024) : outRow x g1 sh sc g2 gf gl ya yb wo wf w1 w2 d = outRow x' g1' sh' sc' g2' gf' gl' ya' yb' wo' wf' w1' w2' d := by
  obtain rfl : x = x' := funext hx
  obtain rfl : g1 = g1' := funext hg1
  obtain rfl : sh = sh' := funext hsh
  obtain rfl : sc = sc' := funext hsc
  obtain rfl : g2 = g2' := funext hg2
  obtain rfl : gf = gf' := funext hgf
  obtain rfl : gl = gl' := funext hgl
  obtain rfl : ya = ya' := funext hya
  obtain rfl : yb = yb' := funext hyb
  obtain rfl : wo = wo' := funext fun k => funext (hwo k)
  obtain rfl : wf = wf' := funext fun k => funext (hwf k)
  obtain rfl : w1 = w1' := funext fun k => funext (hw1 k)
  obtain rfl : w2 = w2' := funext fun k => funext (hw2 k)
  rfl

/-- The reference's result over the kernel's arguments. -/
abbrev refOut : Vec Ideal Cert.ReferenceIdeal.S8x4096x1024 .f32 :=
  Cert.ReferenceIdeal.Read.val_main_v212 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10))
    (m ((c : Thread nD τ).loc main_arg11))

/-- The left half of a point's mixed rows: the reference's gated heads. -/
theorem left_value (hu : Finite (poolIn m c)) (t : Fin cfg0.N) (b i : ℕ) (hb : b < 8) (hi : i < 8) (ht : t.val = b * 8 + i)
    (r k : Fin 512) :
    (outsAt0 m c t.val t.isLt).2 (ix2 r ⟨k.val, by omega⟩)
      = Cert.ReferenceIdeal.Read.val_main_v32 (F := Ideal) (m ((c : Thread nD τ).loc main_arg1)) (m ((c : Thread nD τ).loc main_arg2))
          (m ((c : Thread nD τ).loc main_arg5)) (ix3 ⟨b, hb⟩ ⟨512 * i + r.val, by omega⟩ k) := by
  have hm : min t.val 63 = b * 8 + i := by omega
  rw [scratch_at m c hu t b i hb hi ht, ref_head]
  unfold mixedAt
  rw [dif_pos ⟨r.isLt, Fin.isLt _⟩, dif_pos k.isLt]
  unfold headAt
  rw [blk2 m c t b i hb hi hm, blk7 m c t]
  simp only [blk1 m c t b i hb hi hm]

/-- The right half: the reference's pooled values. -/
theorem right_value (hu : Finite (poolIn m c)) (t : Fin cfg0.N) (b i : ℕ) (hb : b < 8) (hi : i < 8) (ht : t.val = b * 8 + i)
    (r k : Fin 512) :
    (outsAt0 m c t.val t.isLt).2 (ix2 r ⟨512 + k.val, by omega⟩)
      = Cert.ReferenceIdeal.Read.val_main_v158 (F := Ideal) (m ((c : Thread nD τ).loc main_arg3))
          (ix3 ⟨b, hb⟩ ⟨512 * i + r.val, by omega⟩ k) := by
  rw [scratch_at m c hu t b i hb hi ht]
  refine Eq.trans ?_ (ref_pool (poolIn m c) hu _ _ _).symm
  unfold mixedAt
  rw [dif_pos ⟨r.isLt, Fin.isLt _⟩, dif_neg (show ¬ 512 + k.val < 512 by omega)]
  have e : 512 + k.val - 512 = k.val := by omega
  simp only [e]

/-- The output block's entries are the reference's result at the rows of tile `t - 1`. -/
theorem out_value (hu : Finite (poolIn m c)) (t : Fin cfg0.N) (h1 : 1 ≤ t.val) (b i : ℕ) (hb : b < 8) (hi : i < 8)
    (ht : t.val - 1 = b * 8 + i) (r : Fin 512) (d : Fin 1024) :
    (outsAt0 m c t.val t.isLt).1 (ix3 0 r d) = refOut m c (ix3 ⟨b, hb⟩ ⟨512 * i + r.val, by omega⟩ d) := by
  have hp : t.val - 1 < cfg0.N := by have := t.isLt; omega
  rw [out_at m c t h1, stored_at]
  refine Eq.trans ?_ (ref_out _ _ _ _ _ _ _ _ _ _ _ _ _ _ _).symm
  exact outRow_congr (fun q => blk0 m c t b i hb hi ht r q) (fun q => blk6 m c t b i hb hi ht 2 q) (fun q => blk6 m c t b i hb hi ht 3 q)
    (fun q => blk6 m c t b i hb hi ht 4 q) (fun q => blk6 m c t b i hb hi ht 5 q) (fun q => blk8 m c t q) (fun q => blk9 m c t q)
    (fun k => left_value m c hu ⟨t.val - 1, hp⟩ b i hb hi ht r k) (fun k => right_value m c hu ⟨t.val - 1, hp⟩ b i hb hi ht r k)
    (fun k q => blk11 m c t _ q) (fun k q => blk12 m c t k q) (fun k q => blk13 m c t k q) (fun k q => blk14 m c t k q) d

end Cert.Outffn
-- ==== Proof.Outffn.Result.lean ====
module

public import proofs.«01_k».proof.Proof.Outffn.Output
public import proofs.«01_k».proof.Defs
public import proofs.«01_k».proof.Proof.Gen.KernelIdeal.Value
public import proofs.«01_k».proof.Proof.Gen.ReferenceIdeal.Run
public import proofs.«01_k».proof.Proof.Gen.Pre_pool_input_finite

@[expose] public section

/-! # The output stage computes what the reference computes

The output blocks cover the result array, so the array is the reference's result; the precondition says
that the pooling input holds real numbers. -/

noncomputable section
open Idealize.ShloMosaic Idealize.ShloMosaic.TcCoe Idealize.SL.Sem

namespace Cert.Outffn
open Cert.KernelIdeal Cert.KernelIdeal.Gen

/-- The word `0x7F800000` is infinity. -/
theorem ofBits_inf : Ideal.ofBits .f32 0x7F800000#32 = (⊤ : EReal) := by
  simp [Ideal.ofBits, Ideal.ieee]

/-- A value whose magnitude is found below infinity is a real number. -/
theorem real_of_cmp (x : EReal) (h : Ideal.cmp .olt (max x (-x)) (Ideal.ofBits .f32 0x7F800000#32) = 1#1) : x ≠ ⊤ ∧ x ≠ ⊥ := by
  rw [ofBits_inf] at h
  constructor
  · rintro rfl
    simp [Ideal.cmp] at h
  · rintro rfl
    simp [Ideal.cmp] at h

variable (m : (ℓ : Loc nD τ sig) → Buf (Elt Ideal) ℓ) (c : Dev nD)

/-- What the precondition says of the pooling input. -/
theorem pool_finite (h : @Cert.Pre_KernelIdeal_pool_input_finite Cert.Pre_pool_input_finite.Gen.facts m) : Finite (poolIn m c) := by
  intro i
  have e := congrFun (h c) i
  exact real_of_cmp _ e

/-- No output block is written back before the first tile is finished. -/
theorem flush_after_first : ∀ t : Fin cfg0.N, (cfg0.win 15).flush t = true → 1 ≤ t.val := by decide +kernel

/-- The array the call leaves is the reference's result. -/
theorem result_eq (hu : Finite (poolIn m c)) : (dats m 0 c).arrAt 15 cfg0.N = refOut m c := by
  refine (dats m 0 c).arrAt_eq_of_covers 15 _ (by decide +kernel) fun t hf y => ?_
  have h1 := flush_after_first t hf
  have hN : t.val < 65 := lt_of_lt_of_eq t.isLt N_0
  blk_simp [idx15 t]
  rw [after0_15]
  change S1x512x1024.Idx at y
  idx_vars y
  obtain rfl : y0 = 0 := Subsingleton.elim _ _
  refine (out_value m c hu t h1 ((t.val - 1) / 8) ((t.val - 1) % 8) (by omega) (by omega) (by omega) y1 y2).trans (congrArg (refOut m c) ?_)
  funext a
  apply Fin.ext
  match a with
  | ⟨0, _⟩ => blk_simp [idx15 t]; rfl
  | ⟨1, _⟩ =>
    blk_simp [idx15 t]
    show 512 * ((t.val - 1) % 8) + y1.val = (t.val - 1) % 8 * 512 + y1.val
    omega
  | ⟨2, _⟩ => blk_simp [idx15 t]

/-- The call computes what the reference computes, from every memory whose pooling input is finite. -/
theorem algebraic : @Cert.algebraic_KernelIdeal_ReferenceIdeal_pre_pool_input_finite Cert.KernelIdeal.Gen.facts Cert.ReferenceIdeal.Gen.facts
    Cert.Pre_pool_input_finite.Gen.facts := by
  intro m g m' g' hpre hargs
  refine ⟨fun c => refOut m c, ?_, ?_⟩
  · refine (θ_run _ _ _).mono (fun r h c => ?_) (Cert.KernelIdeal.Value.run_blocks m g)
    obtain ⟨h0, hrest⟩ := h c
    exact ⟨h0.trans (result_eq m c (pool_finite m c hpre)), hrest⟩
  · refine (θ_run _ _ _).mono (fun r h c => ?_) (Cert.ReferenceIdeal.Value.run (F := Ideal) m' g')
    obtain ⟨h0, hrest⟩ := h c
    obtain ⟨e0, e1, e2, e3, e4, e5, e6, e7, e8, e9, e10, e11⟩ := hargs c
    refine ⟨(h0.trans (Cert.ReferenceIdeal.Read.val_main_v212_eq _)).trans ?_, hrest⟩
    show _ = refOut m c
    unfold refOut
    rw [← e0, ← e1, ← e2, ← e3, ← e4, ← e5, ← e6, ← e7, ← e8, ← e9, ← e10, ← e11]

end Cert.Outffn
-- ==== Proof.Inproj.Tile.lean ====
module

public import proofs.«01_k».proof.Defs
public import proofs.«01_k».proof.Proof.Gen.Kernel2Ideal.Value
public import Idealize.ShloMosaic.Lib.Pipeline.ValueKit
public import Idealize.ShloMosaic.Lib.Pipeline.ReadBack
public import Idealize.ShloMosaic.Lib.Pointwise

@[expose] public section

/-! # What one grid point of the input projection leaves in its output blocks

A point normalises a tile of 1024 rows and multiplies it by two stacked weight blocks: `byToken` has a row
per token (keys, gate input, pooling input), `byFeature` a row per feature (queries, values, gate rows).
Every output block is a rearrangement of these two products. -/

noncomputable section
open Idealize.ShloMosaic Idealize.ShloMosaic.TcCoe Idealize.SL.Sem
namespace Cert.Inproj
open Cert.Kernel2Ideal Cert.Kernel2Ideal.Gen

variable (m : (ℓ : Loc nD τ sig) → Buf (Elt Ideal) ℓ) (c : Dev nD) (t : Fin cfg0.N)

/-- Entries at indices with the same coordinates agree. -/
theorem entry_congr {K L : ℕ} (B : (⟨2, ![K, L]⟩ : Shape).Idx → EReal) {p p' : Fin K} {q q' : Fin L}
    (hp : p.val = p'.val) (hq : q.val = q'.val) : B (ix2 p q) = B (ix2 p' q') := by
  rw [Fin.ext hp, Fin.ext hq]

/-- The normalised and scaled tile. -/
abbrev scaled (x : Vec Ideal S1x1024x1024 .f32) (md : Vec Ideal S1x6x1024 .f32) (g : Vec Ideal S1x1024 .f32) : FVec Ideal S1024x1024 .bf16 :=
  k0_pay4 (F := Ideal) x (View.ld md (Rect.unit ![0, 1, 0] ![1, 1, 1024] inb_S1x6x1024_S1x1x1024_0_1_0)) g

/-- The shift, one copy per row. -/
abbrev shift (md : Vec Ideal S1x6x1024 .f32) : FVec Ideal S1024x1024 .bf16 :=
  k0_pay5 (F := Ideal) (View.ld md (Rect.unit ![0, 0, 0] ![1, 1, 1024] inb_S1x6x1024_S1x1x1024_0_0_0))

/-- The products with a row per token. -/
abbrev byToken : FVec Ideal S1024x1536 .f32 :=
  k0_pay7 (F := Ideal) (scaled (iblk m c 0 t) (iblk m c 1 t) (iblk m c 2 t)) (shift (iblk m c 1 t)) (iblk m c 3 t)

/-- The products with a row per feature. -/
abbrev byFeature : FVec Ideal S1040x1024 .f32 :=
  k0_pay15 (F := Ideal) (k0_pay6 (scaled (iblk m c 0 t) (iblk m c 1 t) (iblk m c 2 t)) (shift (iblk m c 1 t))) (iblk m c 4 t)

/-- The scaled queries: row `128 h + d` of `byFeature`. -/
theorem q_block (h : Fin 4) (d : Fin 128) (s : Fin 1024) : (outsAt0 m c t).1 (ix4 0 h d s)
    = byFeature m c t (ix2 ⟨128 * h.val + d.val, by omega⟩ s) * Ideal.ofBits FTy.f32 0x3DB504F3#32 := by
  unfold outsAt0 byFeature
  dsimp only
  generalize iblk m c 0 t = x0
  generalize iblk m c 1 t = x1
  generalize iblk m c 2 t = x2
  generalize iblk m c 3 t = x3
  generalize iblk m c 4 t = x4
  frame_open
  frame_out
  canon_tiles x hx
  all_goals
    open_payloads
    generalize k0_pay15 (F := Ideal) _ _ = B
    idx_vars x
    pointwise
    refine congrArg (· * _) (entry_congr B ?_ ?_) <;> dsimp at hx1 hx2 hx3 ⊢ <;> omega

/-- The keys: column `128 h + d` of `byToken`. -/
theorem k_block (h : Fin 4) (s : Fin 1024) (d : Fin 128) : (outsAt0 m c t).2.1 (ix4 0 h s d)
    = byToken m c t (ix2 s ⟨128 * h.val + d.val, by omega⟩) := by
  unfold outsAt0 byToken
  dsimp only
  generalize iblk m c 0 t = x0
  generalize iblk m c 1 t = x1
  generalize iblk m c 2 t = x2
  generalize iblk m c 3 t = x3
  generalize iblk m c 4 t = x4
  frame_open
  frame_out
  canon_tiles x hx
  all_goals
    open_payloads
    generalize k0_pay7 (F := Ideal) _ _ _ = B
    idx_vars x
    pointwise
    refine entry_congr B ?_ ?_ <;> dsimp at hx1 hx2 hx3 ⊢ <;> omega

/-- The values: row `512 + 128 h + d` of `byFeature`, and ones below the 128 rows of a head. -/
theorem v_block (h : Fin 4) (d : Fin 144) (s : Fin 1024) : (outsAt0 m c t).2.2.1 (ix4 0 h d s)
    = if hd : d.val < 128 then byFeature m c t (ix2 ⟨512 + 128 * h.val + d.val, by omega⟩ s) else Ideal.ofBits FTy.bf16 0x3F80#16 := by
  unfold outsAt0 byFeature
  dsimp only
  generalize iblk m c 0 t = x0
  generalize iblk m c 1 t = x1
  generalize iblk m c 2 t = x2
  generalize iblk m c 3 t = x3
  generalize iblk m c 4 t = x4
  frame_open
  frame_out
  canon_tiles x hx using View.cover_of_tiledBy _ ![1, 1, 16, 1024] (by sl_kernel_rfl) _
  all_goals
    open_payloads
    generalize k0_pay15 (F := Ideal) _ _ = B
    idx_vars x
    dsimp at hx1 hx2 hx3
    by_cases hd : d.val < 128
    · rw [dif_pos hd]
      first
        | omega
        | pointwise; refine entry_congr B ?_ ?_ <;> (try dsimp) <;> omega
    · rw [dif_neg hd]
      first
        | omega
        | pointwise

/-- The output gate's input: columns 512 to 1023 of `byToken`. -/
theorem o_block (s : Fin 1024) (q : Fin 512) : (outsAt0 m c t).2.2.2.1 (ix3 0 s q)
    = byToken m c t (ix2 s ⟨512 + q.val, by omega⟩) := by
  unfold outsAt0 byToken
  dsimp only
  generalize iblk m c 0 t = x0
  generalize iblk m c 1 t = x1
  generalize iblk m c 2 t = x2
  generalize iblk m c 3 t = x3
  generalize iblk m c 4 t = x4
  frame_open
  frame_out
  open_payloads
  generalize k0_pay7 (F := Ideal) _ _ _ = B
  pointwise

/-- The pooling input: columns from 1024 of `byToken`. -/
theorem u_block (s : Fin 1024) (q : Fin 512) : (outsAt0 m c t).2.2.2.2.1 (ix3 0 s q)
    = byToken m c t (ix2 s ⟨1024 + q.val, by omega⟩) := by
  unfold outsAt0 byToken
  dsimp only
  generalize iblk m c 0 t = x0
  generalize iblk m c 1 t = x1
  generalize iblk m c 2 t = x2
  generalize iblk m c 3 t = x3
  generalize iblk m c 4 t = x4
  frame_open
  frame_out
  open_payloads
  generalize k0_pay7 (F := Ideal) _ _ _ = B
  pointwise

/-- The two weights passed through. -/
theorem wo_block (a : Fin 32) (q : Fin 1024) : (outsAt0 m c t).2.2.2.2.2.2.1 (ix2 a q) = iblk m c 5 t (ix2 a q) := by
  unfold outsAt0
  dsimp only
  generalize iblk m c 5 t = x5
  frame_open
  frame_out
  open_payloads
  pointwise

theorem wf_block (a : Fin 32) (q : Fin 4096) : (outsAt0 m c t).2.2.2.2.2.2.2 (ix2 a q) = iblk m c 6 t (ix2 a q) := by
  unfold outsAt0
  dsimp only
  generalize iblk m c 6 t = x6
  frame_open
  frame_out
  open_payloads
  pointwise

end Cert.Inproj
-- ==== Proof.Inproj.Weights.lean ====
module

public import proofs.«01_k».proof.Proof.Inproj.Tile
public import Idealize.ShloMosaic.Lib.StableHlo.RunRead

@[expose] public section

/-! # The stacked weights the input projection is given

The host stacks columns of the projection's weight as rows: keys, gate input and pooling input in one array; queries,
values and gate rows (head first, then direction and gate) in the other. -/

noncomputable section
open Idealize.ShloMosaic Idealize.ShloMosaic.TcCoe Idealize.SL.Sem
namespace Cert.Inproj
open Cert.Kernel2Ideal Cert.Kernel2Ideal.Gen

/-- The rows of `byToken`'s weight. -/
def tokWeight (w : FVec Ideal S1024x2576 .f32) : FVec Ideal S1536x1024 .bf16 :=
  truncf (F := Ideal) .bf16 (concatenate S1536x1024 0
    [⟨S512x1024, transpose S512x1024 [1, 0] (extractStridedSlice S1024x512 ![0, 512] w slices_S1024x2576_S1024x512_0_512) transposes_S1024x512_S512x1024_1_0⟩,
      ⟨S512x1024, transpose S512x1024 [1, 0] (extractStridedSlice S1024x512 ![0, 1536] w slices_S1024x2576_S1024x512_0_1536) transposes_S1024x512_S512x1024_1_0⟩,
      ⟨S512x1024, transpose S512x1024 [1, 0] (extractStridedSlice S1024x512 ![0, 2064] w slices_S1024x2576_S1024x512_0_2064) transposes_S1024x512_S512x1024_1_0⟩]
    concatenates_S512x1024_S512x1024_S512x1024_S1536x1024_d0) bitsLt_bf16_f32

/-- The gate rows: column `8 a + 4 g + h` of the gate columns becomes row `4 h + 2 a + g`. -/
def gateRows (w : FVec Ideal S1024x2576 .f32) : FVec Ideal S16x1024 .f32 :=
  shapeCast S16x1024 (transpose S4x2x2x1024 [3, 1, 2, 0]
    (shapeCast S1024x2x2x4 (extractStridedSlice S1024x16 ![0, 2048] w slices_S1024x2576_S1024x16_0_2048) shapeCasts_S1024x16_S1024x2x2x4)
    transposes_S1024x2x2x4_S4x2x2x1024_3_1_2_0) shapeCasts_S4x2x2x1024_S16x1024

/-- The rows of `byFeature`'s weight. -/
def featWeight (w : FVec Ideal S1024x2576 .f32) : FVec Ideal S1040x1024 .bf16 :=
  truncf (F := Ideal) .bf16 (concatenate S1040x1024 0
    [⟨S512x1024, transpose S512x1024 [1, 0] (extractStridedSlice S1024x512 ![0, 0] w slices_S1024x2576_S1024x512_0_0) transposes_S1024x512_S512x1024_1_0⟩,
      ⟨S512x1024, transpose S512x1024 [1, 0] (extractStridedSlice S1024x512 ![0, 1024] w slices_S1024x2576_S1024x512_0_1024) transposes_S1024x512_S512x1024_1_0⟩,
      ⟨S16x1024, gateRows w⟩]
    concatenates_S512x1024_S512x1024_S16x1024_S1040x1024_d0) bitsLt_bf16_f32

section
variable (m : (ℓ : Loc nD τ sig) → Buf (Elt Ideal) ℓ) (c : Dev nD)

/-- Three blocks of rows over one another. -/
abbrev stackTok (a b d : FVec Ideal S512x1024 .f32) : FVec Ideal S1536x1024 .bf16 :=
  truncf (F := Ideal) .bf16 (concatenate S1536x1024 0 [⟨S512x1024, a⟩, ⟨S512x1024, b⟩, ⟨S512x1024, d⟩]
    concatenates_S512x1024_S512x1024_S512x1024_S1536x1024_d0) bitsLt_bf16_f32

/-- Two blocks of rows and the gate rows over one another. -/
abbrev stackFeat (a b : FVec Ideal S512x1024 .f32) (d : FVec Ideal S16x1024 .f32) : FVec Ideal S1040x1024 .bf16 :=
  truncf (F := Ideal) .bf16 (concatenate S1040x1024 0 [⟨S512x1024, a⟩, ⟨S512x1024, b⟩, ⟨S16x1024, d⟩]
    concatenates_S512x1024_S512x1024_S16x1024_S1040x1024_d0) bitsLt_bf16_f32

/-- What the host leaves for `byToken`. -/
theorem tok_eq : V m c main_v13 = tokWeight (m ((c : Thread nD τ).loc main_arg3)) := by
  have h9 : StableHlo.upto hostOps0 (fun b => m (c, b)) 12 (Proc.tc.devRef main_v9)
      = transpose S512x1024 [1, 0] (extractStridedSlice S1024x512 ![0, 512] (m ((c : Thread nD τ).loc main_arg3)) slices_S1024x2576_S1024x512_0_512) transposes_S1024x512_S512x1024_1_0 := by
    after_reads_simp
  have h10 : StableHlo.upto hostOps0 (fun b => m (c, b)) 12 (Proc.tc.devRef main_v10)
      = transpose S512x1024 [1, 0] (extractStridedSlice S1024x512 ![0, 1536] (m ((c : Thread nD τ).loc main_arg3)) slices_S1024x2576_S1024x512_0_1536) transposes_S1024x512_S512x1024_1_0 := by
    after_reads_simp
  have h11 : StableHlo.upto hostOps0 (fun b => m (c, b)) 12 (Proc.tc.devRef main_v11)
      = transpose S512x1024 [1, 0] (extractStridedSlice S1024x512 ![0, 2064] (m ((c : Thread nD τ).loc main_arg3)) slices_S1024x2576_S1024x512_0_2064) transposes_S1024x512_S512x1024_1_0 := by
    after_reads_simp
  after_reads_simp
  have e := congr (congr (congrArg stackTok h9) h10) h11
  exact e

/-- What the host leaves for `byFeature`. -/
theorem feat_eq : V m c main_v17 = featWeight (m ((c : Thread nD τ).loc main_arg3)) := by
  have h14 : StableHlo.upto hostOps0 (fun b => m (c, b)) 16 (Proc.tc.devRef main_v14)
      = transpose S512x1024 [1, 0] (extractStridedSlice S1024x512 ![0, 0] (m ((c : Thread nD τ).loc main_arg3)) slices_S1024x2576_S1024x512_0_0) transposes_S1024x512_S512x1024_1_0 := by
    after_reads_simp
  have h15 : StableHlo.upto hostOps0 (fun b => m (c, b)) 16 (Proc.tc.devRef main_v15)
      = transpose S512x1024 [1, 0] (extractStridedSlice S1024x512 ![0, 1024] (m ((c : Thread nD τ).loc main_arg3)) slices_S1024x2576_S1024x512_0_1024) transposes_S1024x512_S512x1024_1_0 := by
    after_reads_simp
  have h8 : StableHlo.upto hostOps0 (fun b => m (c, b)) 16 (Proc.tc.devRef main_v8) = gateRows (m ((c : Thread nD τ).loc main_arg3)) := by
    after_reads_simp
    rfl
  after_reads_simp
  have e := congr (congr (congrArg stackFeat h14) h15) h8
  exact e

end

variable (w : FVec Ideal S1024x2576 .f32)

theorem tok_k (p : Fin 512) (q : Fin 1024) : tokWeight w (ix2 ⟨p.val, by omega⟩ q) = w (ix2 q ⟨512 + p.val, by omega⟩) := by
  unfold tokWeight
  pointwise

theorem tok_o (p : Fin 512) (q : Fin 1024) : tokWeight w (ix2 ⟨512 + p.val, by omega⟩ q) = w (ix2 q ⟨1536 + p.val, by omega⟩) := by
  unfold tokWeight
  pointwise

theorem tok_u (p : Fin 512) (q : Fin 1024) : tokWeight w (ix2 ⟨1024 + p.val, by omega⟩ q) = w (ix2 q ⟨2064 + p.val, by omega⟩) := by
  unfold tokWeight
  pointwise
  rw [dif_neg (show ¬ 1024 + p.val < 512 by omega), dif_neg (show ¬ 1024 + p.val - 512 < 512 by omega)]
  exact entry_congr w rfl (by dsimp; omega)

theorem feat_q (p : Fin 512) (q : Fin 1024) : featWeight w (ix2 ⟨p.val, by omega⟩ q) = w (ix2 q ⟨p.val, by omega⟩) := by
  unfold featWeight
  pointwise

theorem feat_v (p : Fin 512) (q : Fin 1024) : featWeight w (ix2 ⟨512 + p.val, by omega⟩ q) = w (ix2 q ⟨1024 + p.val, by omega⟩) := by
  unfold featWeight
  pointwise

theorem feat_g (p : Fin 16) (q : Fin 1024) : featWeight w (ix2 ⟨1024 + p.val, by omega⟩ q)
    = w (ix2 q ⟨2048 + p.val % 4 * 4 + p.val / 4, by omega⟩) := by
  unfold featWeight gateRows
  pointwise
  rw [dif_neg (show ¬ 1024 + p.val < 512 by omega), dif_neg (show ¬ 1024 + p.val - 512 < 512 by omega)]
  exact entry_congr w rfl (by dsimp; omega)

end Cert.Inproj
-- ==== Proof.Inproj.Blocks.lean ====
module

public import proofs.«01_k».proof.Proof.Inproj.Weights

@[expose] public section

/-! # The blocks a grid point of the input projection reads

Point `t = 4 b + i` reads tile `i` (1024 rows) of sequence `b`. The two stacked weight blocks are columns of the
projection's weight: keys, gate input and pooling input for `byToken`; queries, values and gate rows for `byFeature`. -/

noncomputable section
open Idealize.ShloMosaic Idealize.ShloMosaic.TcCoe Idealize.SL.Sem
namespace Cert.Inproj
open Cert.Kernel2Ideal Cert.Kernel2Ideal.Gen

theorem idx0 : ∀ t : Fin cfg0.N, win0_0.index t = ![t.val / 4, t.val % 4, 0] := (by decide +kernel : ∀ t : Fin grid0.N, _)
theorem idx1 : ∀ t : Fin cfg0.N, win0_1.index t = ![t.val / 4, 0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![t.val / 4, 0, 0, t.val % 4] := (by decide +kernel : ∀ t : Fin grid0.N, _)
theorem idx8 : ∀ t : Fin cfg0.N, win0_8.index t = ![t.val / 4, 0, t.val % 4, 0] := (by decide +kernel : ∀ t : Fin grid0.N, _)
theorem idx9 : ∀ t : Fin cfg0.N, win0_9.index t = ![t.val / 4, 0, 0, t.val % 4] := (by decide +kernel : ∀ t : Fin grid0.N, _)
theorem idx10 : ∀ t : Fin cfg0.N, win0_10.index t = ![t.val / 4, t.val % 4, 0] := (by decide +kernel : ∀ t : Fin grid0.N, _)
theorem idx11 : ∀ t : Fin cfg0.N, win0_11.index t = ![t.val / 4, t.val % 4, 0] := (by decide +kernel : ∀ t : Fin grid0.N, _)
theorem idx12 : ∀ t : Fin cfg0.N, win0_12.index t = ![t.val / 4, 0, 0, t.val % 4, 0] := (by decide +kernel : ∀ t : Fin grid0.N, _)
theorem idx13 : ∀ t : Fin cfg0.N, win0_13.index t = ![t.val, 0] := (by decide +kernel : ∀ t : Fin grid0.N, _)
theorem idx14 : ∀ t : Fin cfg0.N, win0_14.index t = ![t.val, 0] := (by decide +kernel : ∀ t : Fin grid0.N, _)

variable (m : (ℓ : Loc nD τ sig) → Buf (Elt Ideal) ℓ) (c : Dev nD) (t : Fin cfg0.N)

/-- The projection's weight. -/
abbrev weight : FVec Ideal S1024x2576 .f32 := m ((c : Thread nD τ).loc main_arg3)

section
variable (b i : ℕ) (hb : b < 8) (hi : i < 4) (ht : t.val = b * 4 + i)
include hb hi ht

theorem blk0 (r q : Fin 1024) :
    iblk m c 0 t (ix3 0 r q) = m ((c : Thread nD τ).loc main_arg0) (ix3 ⟨b, hb⟩ ⟨1024 * i + r.val, by omega⟩ q) := by
  have q : t.val / 4 = b := by omega
  have q2 : t.val % 4 = i := by omega
  blk_ext! [iblk, V, idx0 t, q, q2]

theorem blk1 (j : Fin 6) (q : Fin 1024) :
    iblk m c 1 t (ix3 0 j q) = m ((c : Thread nD τ).loc main_arg1) (ix3 ⟨b, hb⟩ j q) := by
  have q : t.val / 4 = b := by omega
  blk_ext! [iblk, V, idx1 t, q]

theorem blk5 (a : Fin 32) (q : Fin 1024) :
    iblk m c 5 t (ix2 a q) = m ((c : Thread nD τ).loc main_arg4) (ix2 ⟨32 * t.val + a.val, by omega⟩ q) := by
  blk_ext! [iblk, V, idx5 t]

theorem blk6 (a : Fin 32) (q : Fin 4096) :
    iblk m c 6 t (ix2 a q) = m ((c : Thread nD τ).loc main_arg5) (ix2 ⟨32 * t.val + a.val, by omega⟩ q) := by
  blk_ext! [iblk, V, idx6 t]

end

theorem blk2 (q : Fin 1024) : iblk m c 2 t (ix2 0 q) = m ((c : Thread nD τ).loc main_arg2) (ix1 q) := by
  blk_ext! [iblk, V, idx2 t]

theorem blk3 (p : Fin 1536) (q : Fin 1024) : iblk m c 3 t (ix2 p q) = tokWeight (weight m c) (ix2 p q) := by
  rw [← tok_eq]
  blk_ext [iblk, idx3 t]

theorem blk4 (p : Fin 1040) (q : Fin 1024) : iblk m c 4 t (ix2 p q) = featWeight (weight m c) (ix2 p q) := by
  rw [← feat_eq]
  blk_ext [iblk, idx4 t]

end Cert.Inproj
-- ==== Proof.Inproj.Products.lean ====
module

public import proofs.«01_k».proof.Proof.Inproj.Blocks
public import proofs.«01_k».proof.Proof.Outffn.Spec
public import proofs.«01_k».proof.Proof.Gen.Reference2Ideal.Run
public import proofs.«01_k».proof.Proof.Gen.Reference2Ideal.Read

@[expose] public section

/-! # The kernel's products are the reference's one product

Both sides are sums over 1024 features of a normalised, scaled and shifted row times a weight column. The kernel
multiplies the two scales first, so associativity of multiplication is all that is used. -/

noncomputable section
open Idealize.ShloMosaic Idealize.ShloMosaic.TcCoe Idealize.SL.Sem
namespace Cert.Inproj
open Cert.Kernel2Ideal Cert.Kernel2Ideal.Gen
open Cert.Outffn (rms rowLen)

/-- A normalised, scaled and shifted row. -/
def row (x g sc sh : Fin 1024 → EReal) (q : Fin 1024) : EReal :=
  rms rowLen x q * g q * (Ideal.ofBits FTy.f32 0x3F800000#32 + sc q) + sh q

/-- The tile's rows. -/
theorem tile_at (x : Vec Ideal S1x1024x1024 .f32) (md : Vec Ideal S1x6x1024 .f32) (g : Vec Ideal S1x1024 .f32) (r q : Fin 1024) :
    k0_pay6 (F := Ideal) (scaled x md g) (shift md) (ix2 r q)
      = row (fun e => x (ix3 0 r e)) (fun e => g (ix2 0 e)) (fun e => md (ix3 0 1 e)) (fun e => md (ix3 0 0 e)) q := by
  have e1 : View.ld md (Rect.unit ![0, 1, 0] ![1, 1, 1024] inb_S1x6x1024_S1x1x1024_0_1_0) (ix3 0 0 q) = md (ix3 0 1 q) :=
    View.ld_unit_apply_of _ _ _ _ _ _ fun a => by match a with | ⟨0, _⟩ => rfl | ⟨1, _⟩ => rfl | ⟨2, _⟩ => exact (Nat.zero_add _).symm
  have e0 : View.ld md (Rect.unit ![0, 0, 0] ![1, 1, 1024] inb_S1x6x1024_S1x1x1024_0_0_0) (ix3 0 0 q) = md (ix3 0 0 q) :=
    View.ld_unit_apply_of _ _ _ _ _ _ fun a => by match a with | ⟨0, _⟩ => rfl | ⟨1, _⟩ => rfl | ⟨2, _⟩ => exact (Nat.zero_add _).symm
  unfold row rms rowLen
  dsimp only
  rw [← e1, ← e0]
  unfold k0_pay6 scaled shift k0_pay4 k0_pay5
  generalize View.ld md (Rect.unit ![0, 1, 0] ![1, 1, 1024] inb_S1x6x1024_S1x1x1024_0_1_0) = A
  generalize View.ld md (Rect.unit ![0, 0, 0] ![1, 1, 1024] inb_S1x6x1024_S1x1x1024_0_0_0) = B
  rw [mul_assoc]
  pointwise

/-- The products with a row per token, over the tile. -/
theorem tok_at (a b : FVec Ideal S1024x1024 .bf16) (w : Vec Ideal S1536x1024 .bf16) (r : Fin 1024) (p : Fin 1536) :
    k0_pay7 (F := Ideal) a b w (ix2 r p) = ∑ q : Fin 1024, k0_pay6 (F := Ideal) a b (ix2 r q) * w (ix2 p q) := by
  unfold k0_pay7
  generalize k0_pay6 (F := Ideal) a b = H
  pointwise

/-- The products with a row per feature, over the tile. -/
theorem feat_at (H : FVec Ideal S1024x1024 .bf16) (w : Vec Ideal S1040x1024 .bf16) (p : Fin 1040) (r : Fin 1024) :
    k0_pay15 (F := Ideal) H w (ix2 p r) = ∑ q : Fin 1024, H (ix2 r q) * w (ix2 p q) := by
  have e : k0_pay15 (F := Ideal) H w (ix2 p r) = ∑ q : Fin 1024, w (ix2 p q) * H (ix2 r q) := by
    unfold k0_pay15
    pointwise
  exact e.trans (Finset.sum_congr rfl fun q _ => mul_comm _ _)

open Cert.Reference2Ideal Cert.Reference2Ideal.Read in
/-- The reference's product at an entry. -/
theorem ref_at (x0 : Vec Ideal Cert.Reference2Ideal.S8x4096x1024 .f32) (x1 : Vec Ideal Cert.Reference2Ideal.S8x6x1024 .f32) (x2 : Vec Ideal Cert.Reference2Ideal.S1024 .f32)
    (x3 : Vec Ideal Cert.Reference2Ideal.S1024x2576 .f32) (b : Fin 8) (s : Fin 4096) (p : Fin 2576) :
    val_main_v25 (F := Ideal) x0 x1 x2 x3 (ix3 b s p)
      = ∑ q : Fin 1024, row (fun e => x0 (ix3 b s e)) (fun e => x2 (ix1 e)) (fun e => x1 (ix3 b 1 e)) (fun e => x1 (ix3 b 0 e)) q * x3 (ix2 q p) := by
  unfold row rms rowLen
  pointwise [val_main_v25, val_main_v24, val_main_v23, val_main_v22, val_main_v21, val_main_v20, val_main_v19, val_main_v18, val_main_cst_2, val_main_v17, val_main_v16, val_main_v15, val_main_v14, val_main_v13, val_main_v12, val_main_v11, val_main_v10, val_main_v9, val_main_cst_1, val_main_v8, val_main_v7, val_main_cst_0, val_main_v6, val_main_v5, val_main_cst, val_main_v4, val_main_v3, val_main_v2, val_main_v1, val_main_v0]

variable (m : (ℓ : Loc nD τ sig) → Buf (Elt Ideal) ℓ) (c : Dev nD) (t : Fin cfg0.N)

/-- The reference's product of the arrays the kernel is given. -/
abbrev product : FVec Ideal Cert.Reference2Ideal.S8x4096x2576 .f32 :=
  Cert.Reference2Ideal.Read.val_main_v25 (F := Ideal) (m ((c : Thread nD τ).loc main_arg0)) (m ((c : Thread nD τ).loc main_arg1))
    (m ((c : Thread nD τ).loc main_arg2)) (m ((c : Thread nD τ).loc main_arg3))

variable (b i : ℕ) (hb : b < 8) (hi : i < 4) (ht : t.val = b * 4 + i)
include hb hi ht

/-- A row of the tile in terms of the arrays. -/
theorem tile_row (r q : Fin 1024) :
    k0_pay6 (F := Ideal) (scaled (iblk m c 0 t) (iblk m c 1 t) (iblk m c 2 t)) (shift (iblk m c 1 t)) (ix2 r q)
      = row (fun e => m ((c : Thread nD τ).loc main_arg0) (ix3 ⟨b, hb⟩ ⟨1024 * i + r.val, by omega⟩ e)) (fun e => m ((c : Thread nD τ).loc main_arg2) (ix1 e))
          (fun e => m ((c : Thread nD τ).loc main_arg1) (ix3 ⟨b, hb⟩ 1 e)) (fun e => m ((c : Thread nD τ).loc main_arg1) (ix3 ⟨b, hb⟩ 0 e)) q := by
  rw [tile_at]
  simp only [blk0 m c t b i hb hi ht, blk1 m c t b i hb hi ht, blk2 m c t]

/-- A token-major product whose weight row is column `p'` is the reference's entry in that column. -/
theorem tok_product (r : Fin 1024) (p : Fin 1536) (p' : Fin 2576)
    (hw : ∀ q, tokWeight (weight m c) (ix2 p q) = weight m c (ix2 q p')) :
    byToken m c t (ix2 r p) = product m c (ix3 ⟨b, hb⟩ ⟨1024 * i + r.val, by omega⟩ p') := by
  unfold byToken product
  rw [tok_at, ref_at]
  refine Finset.sum_congr rfl fun q _ => ?_
  rw [tile_row m c t b i hb hi ht, blk3, hw]

/-- A feature-major product whose weight row is column `p'` is the reference's entry in that column. -/
theorem feat_product (r : Fin 1024) (p : Fin 1040) (p' : Fin 2576)
    (hw : ∀ q, featWeight (weight m c) (ix2 p q) = weight m c (ix2 q p')) :
    byFeature m c t (ix2 p r) = product m c (ix3 ⟨b, hb⟩ ⟨1024 * i + r.val, by omega⟩ p') := by
  unfold byFeature product
  rw [feat_at, ref_at]
  refine Finset.sum_congr rfl fun q _ => ?_
  rw [tile_row m c t b i hb hi ht, blk4, hw]

end Cert.Inproj
-- ==== Proof.Inproj.Reference.lean ====
module

public import proofs.«01_k».proof.Proof.Inproj.Tile
public import proofs.«01_k».proof.Proof.Gen.Reference2Ideal.Run
public import proofs.«01_k».proof.Proof.Gen.Reference2Ideal.Read

@[expose] public section
set_option maxHeartbeats 1000000

/-! # The reference's results at an index

Each result of the reference is a rearrangement of one product, `val_main_v25`: a slice of its columns, split into
heads and transposed. -/

noncomputable section
open Idealize.ShloMosaic Idealize.ShloMosaic.TcCoe Idealize.SL.Sem
namespace Cert.Inproj
open Cert.Reference2Ideal Cert.Reference2Ideal.Gen Cert.Reference2Ideal.Read

variable (x0 : Vec Ideal S8x4096x1024 .f32) (x1 : Vec Ideal S8x6x1024 .f32) (x2 : Vec Ideal S1024 .f32) (x3 : Vec Ideal S1024x2576 .f32)

/-- Two entries of a rank 3 array in the same place are equal. -/
theorem entry3_congr {n0 n1 n2 : ℕ} (B : FVec Ideal ⟨3, ![n0, n1, n2]⟩ .f32) {p p' : Fin n0} {q q' : Fin n1} {r r' : Fin n2}
    (hp : p.val = p'.val) (hq : q.val = q'.val) (hr : r.val = r'.val) : B (ix3 p q r) = B (ix3 p' q' r') := by
  obtain rfl := Fin.ext hp
  obtain rfl := Fin.ext hq
  obtain rfl := Fin.ext hr
  rfl

/-- Queries: scaled, features before tokens. -/
theorem ref_q (b : Fin 8) (h : Fin 4) (d : Fin 128) (s : Fin 4096) :
    val_main_v45 (F := Ideal) x0 x1 x2 x3 (ix4 b h d s)
      = val_main_v25 (F := Ideal) x0 x1 x2 x3 (ix3 b s ⟨128 * h.val + d.val, by omega⟩) * Ideal.ofBits FTy.f32 0x3DB504F3#32 := by
  unfold val_main_v45 val_main_v36 val_main_v35 val_main_v34 val_main_cst_3 val_main_v33 val_main_v32 val_main_v26
  generalize val_main_v25 (F := Ideal) x0 x1 x2 x3 = R
  pointwise
  refine congrArg (· * _) (entry3_congr R ?_ ?_ ?_) <;> (try dsimp) <;> omega

/-- Keys. -/
theorem ref_k (b : Fin 8) (h : Fin 4) (s : Fin 4096) (d : Fin 128) :
    val_main_v48 (F := Ideal) x0 x1 x2 x3 (ix4 b h s d)
      = val_main_v25 (F := Ideal) x0 x1 x2 x3 (ix3 b s ⟨512 + (128 * h.val + d.val), by omega⟩) := by
  unfold val_main_v48 val_main_v47 val_main_v46 val_main_v27
  generalize val_main_v25 (F := Ideal) x0 x1 x2 x3 = R
  pointwise
  refine entry3_congr R ?_ ?_ ?_ <;> (try dsimp) <;> omega

/-- Values, below which come sixteen rows of ones. -/
theorem ref_v (b : Fin 8) (h : Fin 4) (d : Fin 144) (s : Fin 4096) :
    val_main_v49 (F := Ideal) x0 x1 x2 x3 (ix4 b h d s)
      = if hd : d.val < 128 then val_main_v25 (F := Ideal) x0 x1 x2 x3 (ix3 b s ⟨1024 + (128 * h.val + d.val), by omega⟩)
        else Ideal.ofBits FTy.bf16 0x3F80#16 := by
  unfold val_main_v49 val_main_v41 val_main_v40 val_main_cst_4 val_main_v39 val_main_v38 val_main_v37 val_main_v28
  generalize val_main_v25 (F := Ideal) x0 x1 x2 x3 = R
  pointwise
  by_cases hd : d.val < 128
  · rw [dif_pos hd, dif_pos hd]
    refine entry3_congr R ?_ ?_ ?_ <;> (try dsimp) <;> omega
  · rw [dif_neg hd, dif_neg hd]

/-- The gate input. -/
theorem ref_o (b : Fin 8) (s : Fin 4096) (q : Fin 512) :
    val_main_v50 (F := Ideal) x0 x1 x2 x3 (ix3 b s q) = val_main_v25 (F := Ideal) x0 x1 x2 x3 (ix3 b s ⟨1536 + q.val, by omega⟩) := by
  unfold val_main_v50 val_main_v29
  generalize val_main_v25 (F := Ideal) x0 x1 x2 x3 = R
  pointwise

/-- The pooling input. -/
theorem ref_u (b : Fin 8) (s : Fin 4096) (q : Fin 512) :
    val_main_v51 (F := Ideal) x0 x1 x2 x3 (ix3 b s q) = val_main_v25 (F := Ideal) x0 x1 x2 x3 (ix3 b s ⟨2064 + q.val, by omega⟩) := by
  unfold val_main_v51 val_main_v31
  generalize val_main_v25 (F := Ideal) x0 x1 x2 x3 = R
  pointwise

/-- The gate rows: head, then gate row, then the token in chunks of 128. -/
theorem ref_g (b : Fin 8) (h r : Fin 4) (j : Fin 32) (e : Fin 128) :
    val_main_v44 (F := Ideal) x0 x1 x2 x3 (ix5 b h r j e)
      = val_main_v25 (F := Ideal) x0 x1 x2 x3 (ix3 b ⟨128 * j.val + e.val, by omega⟩ ⟨2048 + (4 * r.val + h.val), by omega⟩) := by
  unfold val_main_v44 val_main_v43 val_main_v42 val_main_v30
  generalize val_main_v25 (F := Ideal) x0 x1 x2 x3 = R
  pointwise
  refine entry3_congr R ?_ ?_ ?_ <;> (try dsimp) <;> omega

end Cert.Inproj
-- ==== Proof.Inproj.Gates.lean ====
module

public import proofs.«01_k».proof.Proof.Inproj.Tile

@[expose] public section

/-! # The gate rows one grid point leaves

The block of gates is stored row by row in pieces of 128 tokens; all pieces are rows of `byFeature` from 1024 on. -/

noncomputable section
open Idealize.ShloMosaic Idealize.ShloMosaic.TcCoe Idealize.SL.Sem
namespace Cert.Inproj
open Cert.Kernel2Ideal Cert.Kernel2Ideal.Gen

variable (m : (ℓ : Loc nD τ sig) → Buf (Elt Ideal) ℓ) (c : Dev nD) (t : Fin cfg0.N)

set_option maxHeartbeats 4000000 in
/-- Gate `r` of head `h` at token `128 j + e`: row `1024 + 4 h + r` of `byFeature`. -/
theorem gate_block (h r : Fin 4) (j : Fin 8) (e : Fin 128) : (outsAt0 m c t).2.2.2.2.2.1 (ix5 0 h r j e)
    = byFeature m c t (ix2 ⟨1024 + 4 * h.val + r.val, by omega⟩ ⟨128 * j.val + e.val, by omega⟩) := by
  unfold outsAt0 byFeature
  dsimp only
  generalize iblk m c 0 t = x0
  generalize iblk m c 1 t = x1
  generalize iblk m c 2 t = x2
  generalize iblk m c 3 t = x3
  generalize iblk m c 4 t = x4
  frame_open
  frame_out
  canon_tiles x hx
  all_goals
    open_payloads
    generalize k0_pay15 (F := Ideal) _ _ = B
    idx_vars x
    pointwise
    refine entry_congr B ?_ ?_ <;> dsimp at hx1 hx2 hx3 hx4 ⊢ <;> omega

end Cert.Inproj
-- ==== Proof.Inproj.Entries.lean ====
module

public import proofs.«01_k».proof.Proof.Inproj.Products
public import proofs.«01_k».proof.Proof.Inproj.Reference
public import proofs.«01_k».proof.Proof.Inproj.Gates

@[expose] public section

/-! # The blocks of the input projection hold the reference's entries

Grid point `t = 4 b + i` writes tile `i` of sequence `b`, and slice `t` of each of the two weights it casts. -/

noncomputable section
open Idealize.ShloMosaic Idealize.ShloMosaic.TcCoe Idealize.SL.Sem
namespace Cert.Inproj
open Cert.Kernel2Ideal Cert.Kernel2Ideal.Gen
open Cert.Reference2Ideal.Read

variable (m : (ℓ : Loc nD τ sig) → Buf (Elt Ideal) ℓ) (c : Dev nD) (t : Fin cfg0.N)

/-- The queries the reference computes. -/
abbrev refQ : FVec Ideal S8x4x128x4096 .bf16 := val_main_v45 (F := Ideal) (m ((c : Thread nD τ).loc main_arg0)) (m ((c : Thread nD τ).loc main_arg1))
    (m ((c : Thread nD τ).loc main_arg2)) (m ((c : Thread nD τ).loc main_arg3))
/-- The keys the reference computes. -/
abbrev refK : FVec Ideal S8x4x4096x128 .bf16 := val_main_v48 (F := Ideal) (m ((c : Thread nD τ).loc main_arg0)) (m ((c : Thread nD τ).loc main_arg1))
    (m ((c : Thread nD τ).loc main_arg2)) (m ((c : Thread nD τ).loc main_arg3))
/-- The values the reference computes, with their rows of ones. -/
abbrev refV : FVec Ideal S8x4x144x4096 .bf16 := val_main_v49 (F := Ideal) (m ((c : Thread nD τ).loc main_arg0)) (m ((c : Thread nD τ).loc main_arg1))
    (m ((c : Thread nD τ).loc main_arg2)) (m ((c : Thread nD τ).loc main_arg3))
/-- The gate input the reference computes. -/
abbrev refO : FVec Ideal S8x4096x512 .bf16 := val_main_v50 (F := Ideal) (m ((c : Thread nD τ).loc main_arg0)) (m ((c : Thread nD τ).loc main_arg1))
    (m ((c : Thread nD τ).loc main_arg2)) (m ((c : Thread nD τ).loc main_arg3))
/-- The pooling input the reference computes. -/
abbrev refU : FVec Ideal S8x4096x512 .bf16 := val_main_v51 (F := Ideal) (m ((c : Thread nD τ).loc main_arg0)) (m ((c : Thread nD τ).loc main_arg1))
    (m ((c : Thread nD τ).loc main_arg2)) (m ((c : Thread nD τ).loc main_arg3))
/-- The gate rows the reference computes. -/
abbrev refG : FVec Ideal S8x4x4x32x128 .f32 := val_main_v44 (F := Ideal) (m ((c : Thread nD τ).loc main_arg0)) (m ((c : Thread nD τ).loc main_arg1))
    (m ((c : Thread nD τ).loc main_arg2)) (m ((c : Thread nD τ).loc main_arg3))
/-- The output projection's weight, cast. -/
abbrev refWo : FVec Ideal S1024x1024 .bf16 := val_main_v52 (F := Ideal) (m ((c : Thread nD τ).loc main_arg4))
/-- The feed-forward's weight, cast. -/
abbrev refWf : FVec Ideal S1024x4096 .bf16 := val_main_v53 (F := Ideal) (m ((c : Thread nD τ).loc main_arg5))

variable (b i : ℕ) (hb : b < 8) (hi : i < 4) (ht : t.val = b * 4 + i)
include hb hi ht

theorem q_entry (h : Fin 4) (d : Fin 128) (s : Fin 1024) :
    (outsAt0 m c t).1 (ix4 0 h d s) = refQ m c (ix4 ⟨b, hb⟩ h d ⟨1024 * i + s.val, by omega⟩) := by
  rw [q_block, feat_product m c t b i hb hi ht s _ ⟨128 * h.val + d.val, by omega⟩ fun q => feat_q _ ⟨128 * h.val + d.val, by omega⟩ q]
  exact (ref_q _ _ _ _ ⟨b, hb⟩ h d _).symm

theorem k_entry (h : Fin 4) (s : Fin 1024) (d : Fin 128) :
    (outsAt0 m c t).2.1 (ix4 0 h s d) = refK m c (ix4 ⟨b, hb⟩ h ⟨1024 * i + s.val, by omega⟩ d) := by
  rw [k_block, tok_product m c t b i hb hi ht s _ ⟨512 + (128 * h.val + d.val), by omega⟩ fun q => tok_k _ ⟨128 * h.val + d.val, by omega⟩ q]
  exact (ref_k _ _ _ _ ⟨b, hb⟩ h _ d).symm

theorem v_entry (h : Fin 4) (d : Fin 144) (s : Fin 1024) :
    (outsAt0 m c t).2.2.1 (ix4 0 h d s) = refV m c (ix4 ⟨b, hb⟩ h d ⟨1024 * i + s.val, by omega⟩) := by
  refine (v_block m c t h d s).trans (Eq.trans ?_ (ref_v _ _ _ _ ⟨b, hb⟩ h d _).symm)
  by_cases hd : d.val < 128
  · rw [dif_pos hd, dif_pos hd]
    have e : (⟨512 + 128 * h.val + d.val, by omega⟩ : Fin 1040) = ⟨512 + (128 * h.val + d.val), by omega⟩ := Fin.ext (Nat.add_assoc _ _ _)
    rw [e]
    exact feat_product m c t b i hb hi ht s _ ⟨1024 + (128 * h.val + d.val), by omega⟩ fun q => feat_v _ ⟨128 * h.val + d.val, by omega⟩ q
  · rw [dif_neg hd, dif_neg hd]

theorem o_entry (s : Fin 1024) (q : Fin 512) :
    (outsAt0 m c t).2.2.2.1 (ix3 0 s q) = refO m c (ix3 ⟨b, hb⟩ ⟨1024 * i + s.val, by omega⟩ q) := by
  rw [o_block, tok_product m c t b i hb hi ht s _ ⟨1536 + q.val, by omega⟩ fun e => tok_o _ q e]
  exact (ref_o _ _ _ _ ⟨b, hb⟩ _ q).symm

theorem u_entry (s : Fin 1024) (q : Fin 512) :
    (outsAt0 m c t).2.2.2.2.1 (ix3 0 s q) = refU m c (ix3 ⟨b, hb⟩ ⟨1024 * i + s.val, by omega⟩ q) := by
  rw [u_block, tok_product m c t b i hb hi ht s _ ⟨2064 + q.val, by omega⟩ fun e => tok_u _ q e]
  exact (ref_u _ _ _ _ ⟨b, hb⟩ _ q).symm

theorem g_entry (h r : Fin 4) (j : Fin 8) (e : Fin 128) :
    (outsAt0 m c t).2.2.2.2.2.1 (ix5 0 h r j e) = refG m c (ix5 ⟨b, hb⟩ h r ⟨8 * i + j.val, by omega⟩ e) := by
  refine (gate_block m c t h r j e).trans (Eq.trans ?_ (ref_g _ _ _ _ ⟨b, hb⟩ h r _ e).symm)
  have e' : (⟨1024 + 4 * h.val + r.val, by omega⟩ : Fin 1040) = ⟨1024 + (4 * h.val + r.val), by omega⟩ := Fin.ext (Nat.add_assoc _ _ _)
  rw [e']
  refine (feat_product m c t b i hb hi ht ⟨128 * j.val + e.val, by omega⟩ _ _ fun q => feat_g _ ⟨4 * h.val + r.val, by omega⟩ q).trans ?_
  refine entry3_congr (product m c) rfl ?_ ?_
  · show 1024 * i + (128 * j.val + e.val) = 128 * (8 * i + j.val) + e.val
    omega
  · dsimp
    omega

theorem wo_entry (a : Fin 32) (q : Fin 1024) :
    (outsAt0 m c t).2.2.2.2.2.2.1 (ix2 a q) = refWo m c (ix2 ⟨32 * t.val + a.val, by omega⟩ q) :=
  (wo_block m c t a q).trans (blk5 m c t b i hb hi ht a q)

theorem wf_entry (a : Fin 32) (q : Fin 4096) :
    (outsAt0 m c t).2.2.2.2.2.2.2 (ix2 a q) = refWf m c (ix2 ⟨32 * t.val + a.val, by omega⟩ q) :=
  (wf_block m c t a q).trans (blk6 m c t b i hb hi ht a q)

end Cert.Inproj
-- ==== Proof.Inproj.Arrays.lean ====
module

public import proofs.«01_k».proof.Proof.Inproj.Entries

@[expose] public section

/-! # The arrays the input projection leaves

The blocks of each result cover its array, so each array is the reference's. -/

noncomputable section
open Idealize.ShloMosaic Idealize.ShloMosaic.TcCoe Idealize.SL.Sem
namespace Cert.Inproj
open Cert.Kernel2Ideal Cert.Kernel2Ideal.Gen

variable (m : (ℓ : Loc nD τ sig) → Buf (Elt Ideal) ℓ) (c : Dev nD)

/-- The grid point is tile `t % 4` of sequence `t / 4`. -/
theorem point (t : Fin cfg0.N) : t.val / 4 < 8 ∧ t.val % 4 < 4 ∧ t.val = t.val / 4 * 4 + t.val % 4 := by
  have hN : t.val < 32 := lt_of_lt_of_eq t.isLt N_0
  omega

/-- The queries. -/
theorem q_array : (dats m 0 c).arrAt 7 cfg0.N = refQ m c := by
  refine (dats m 0 c).arrAt_eq_of_covers 7 _ (by decide +kernel) fun t hf y => ?_
  obtain ⟨hb, hi, ht⟩ := point t
  blk_simp [idx7 t]
  rw [after0_7]
  change S1x4x128x1024.Idx at y
  idx_vars y
  obtain rfl : y0 = 0 := Subsingleton.elim _ _
  refine (q_entry m c t (t.val / 4) (t.val % 4) hb hi ht y1 y2 y3).trans (congrArg (refQ m c) ?_)
  funext a
  apply Fin.ext
  match a with
  | ⟨0, _⟩ => blk_simp [idx7 t]; rfl
  | ⟨1, _⟩ => blk_simp [idx7 t]
  | ⟨2, _⟩ => blk_simp [idx7 t]
  | ⟨3, _⟩ =>
    blk_simp [idx7 t]
    show 1024 * (t.val % 4) + y3.val = t.val % 4 * 1024 + y3.val
    omega

/-- The keys. -/
theorem k_array : (dats m 0 c).arrAt 8 cfg0.N = refK m c := by
  refine (dats m 0 c).arrAt_eq_of_covers 8 _ (by decide +kernel) fun t hf y => ?_
  obtain ⟨hb, hi, ht⟩ := point t
  blk_simp [idx8 t]
  rw [after0_8]
  change S1x4x1024x128.Idx at y
  idx_vars y
  obtain rfl : y0 = 0 := Subsingleton.elim _ _
  refine (k_entry m c t (t.val / 4) (t.val % 4) hb hi ht y1 y2 y3).trans (congrArg (refK m c) ?_)
  funext a
  apply Fin.ext
  match a with
  | ⟨0, _⟩ => blk_simp [idx8 t]; rfl
  | ⟨1, _⟩ => blk_simp [idx8 t]
  | ⟨2, _⟩ =>
    blk_simp [idx8 t]
    show 1024 * (t.val % 4) + y2.val = t.val % 4 * 1024 + y2.val
    omega
  | ⟨3, _⟩ => blk_simp [idx8 t]

/-- The values. -/
theorem v_array : (dats m 0 c).arrAt 9 cfg0.N = refV m c := by
  refine (dats m 0 c).arrAt_eq_of_covers 9 _ (by decide +kernel) fun t hf y => ?_
  obtain ⟨hb, hi, ht⟩ := point t
  blk_simp [idx9 t]
  rw [after0_9]
  change S1x4x144x1024.Idx at y
  idx_vars y
  obtain rfl : y0 = 0 := Subsingleton.elim _ _
  refine (v_entry m c t (t.val / 4) (t.val % 4) hb hi ht y1 y2 y3).trans (congrArg (refV m c) ?_)
  funext a
  apply Fin.ext
  match a with
  | ⟨0, _⟩ => blk_simp [idx9 t]; rfl
  | ⟨1, _⟩ => blk_simp [idx9 t]
  | ⟨2, _⟩ => blk_simp [idx9 t]
  | ⟨3, _⟩ =>
    blk_simp [idx9 t]
    show 1024 * (t.val % 4) + y3.val = t.val % 4 * 1024 + y3.val
    omega

/-- The gate input. -/
theorem o_array : (dats m 0 c).arrAt 10 cfg0.N = refO m c := by
  refine (dats m 0 c).arrAt_eq_of_covers 10 _ (by decide +kernel) fun t hf y => ?_
  obtain ⟨hb, hi, ht⟩ := point t
  blk_simp [idx10 t]
  rw [after0_10]
  change S1x1024x512.Idx at y
  idx_vars y
  obtain rfl : y0 = 0 := Subsingleton.elim _ _
  refine (o_entry m c t (t.val / 4) (t.val % 4) hb hi ht y1 y2).trans (congrArg (refO m c) ?_)
  funext a
  apply Fin.ext
  match a with
  | ⟨0, _⟩ => blk_simp [idx10 t]; rfl
  | ⟨1, _⟩ =>
    blk_simp [idx10 t]
    show 1024 * (t.val % 4) + y1.val = t.val % 4 * 1024 + y1.val
    omega
  | ⟨2, _⟩ => blk_simp [idx10 t]

/-- The pooling input. -/
theorem u_array : (dats m 0 c).arrAt 11 cfg0.N = refU m c := by
  refine (dats m 0 c).arrAt_eq_of_covers 11 _ (by decide +kernel) fun t hf y => ?_
  obtain ⟨hb, hi, ht⟩ := point t
  blk_simp [idx11 t]
  rw [after0_11]
  change S1x1024x512.Idx at y
  idx_vars y
  obtain rfl : y0 = 0 := Subsingleton.elim _ _
  refine (u_entry m c t (t.val / 4) (t.val % 4) hb hi ht y1 y2).trans (congrArg (refU m c) ?_)
  funext a
  apply Fin.ext
  match a with
  | ⟨0, _⟩ => blk_simp [idx11 t]; rfl
  | ⟨1, _⟩ =>
    blk_simp [idx11 t]
    show 1024 * (t.val % 4) + y1.val = t.val % 4 * 1024 + y1.val
    omega
  | ⟨2, _⟩ => blk_simp [idx11 t]

/-- The gate rows. -/
theorem g_array : (dats m 0 c).arrAt 12 cfg0.N = refG m c := by
  refine (dats m 0 c).arrAt_eq_of_covers 12 _ (by decide +kernel) fun t hf y => ?_
  obtain ⟨hb, hi, ht⟩ := point t
  blk_simp [idx12 t]
  rw [after0_12]
  change S1x4x4x8x128.Idx at y
  idx_vars y
  obtain rfl : y0 = 0 := Subsingleton.elim _ _
  refine (g_entry m c t (t.val / 4) (t.val % 4) hb hi ht y1 y2 y3 y4).trans (congrArg (refG m c) ?_)
  funext a
  apply Fin.ext
  match a with
  | ⟨0, _⟩ => blk_simp [idx12 t]; rfl
  | ⟨1, _⟩ => blk_simp [idx12 t]
  | ⟨2, _⟩ => blk_simp [idx12 t]
  | ⟨3, _⟩ =>
    blk_simp [idx12 t]
    show 8 * (t.val % 4) + y3.val = t.val % 4 * 8 + y3.val
    omega
  | ⟨4, _⟩ => blk_simp [idx12 t]

/-- The output projection's weight, cast. -/
theorem wo_array : (dats m 0 c).arrAt 13 cfg0.N = refWo m c := by
  refine (dats m 0 c).arrAt_eq_of_covers 13 _ (by decide +kernel) fun t hf y => ?_
  obtain ⟨hb, hi, ht⟩ := point t
  blk_simp [idx13 t]
  rw [after0_13]
  change S32x1024.Idx at y
  idx_vars y
  refine (wo_entry m c t (t.val / 4) (t.val % 4) hb hi ht y0 y1).trans (congrArg (refWo m c) ?_)
  funext a
  apply Fin.ext
  match a with
  | ⟨0, _⟩ =>
    blk_simp [idx13 t]
    show 32 * t.val + y0.val = t.val * 32 + y0.val
    omega
  | ⟨1, _⟩ => blk_simp [idx13 t]

/-- The feed-forward's weight, cast. -/
theorem wf_array : (dats m 0 c).arrAt 14 cfg0.N = refWf m c := by
  refine (dats m 0 c).arrAt_eq_of_covers 14 _ (by decide +kernel) fun t hf y => ?_
  obtain ⟨hb, hi, ht⟩ := point t
  blk_simp [idx14 t]
  rw [after0_14]
  change S32x4096.Idx at y
  idx_vars y
  refine (wf_entry m c t (t.val / 4) (t.val % 4) hb hi ht y0 y1).trans (congrArg (refWf m c) ?_)
  funext a
  apply Fin.ext
  match a with
  | ⟨0, _⟩ =>
    blk_simp [idx14 t]
    show 32 * t.val + y0.val = t.val * 32 + y0.val
    omega
  | ⟨1, _⟩ => blk_simp [idx14 t]

end Cert.Inproj
-- ==== Proof.Inproj.lean ====
module

public import proofs.«01_k».proof.Proof.Inproj.Arrays
public import proofs.«01_k».proof.Defs

@[expose] public section

/-! # The input projection computes what the reference computes

All eight results, from every memory. -/

noncomputable section
open Idealize.ShloMosaic Idealize.ShloMosaic.TcCoe Idealize.SL.Sem
namespace Cert.Inproj
open Cert.Kernel2Ideal Cert.Kernel2Ideal.Gen
open Cert.Reference2Ideal.Read

/-- The call computes what the reference computes. -/
theorem algebraic : @Cert.algebraic_Kernel2Ideal_Reference2Ideal Cert.Kernel2Ideal.Gen.facts Cert.Reference2Ideal.Gen.facts := by
  intro m g m' g' hpre hargs
  refine ⟨fun c => refQ m c, fun c => refK m c, fun c => refV m c, fun c => refO m c, fun c => refU m c, fun c => refG m c,
    fun c => refWo m c, fun c => refWf m c, ?_, ?_⟩
  · refine (θ_run _ _ _).mono (fun r h c => ?_) (Cert.Kernel2Ideal.Value.run_blocks m g)
    obtain ⟨h0, h1, h2, h3, h4, h5, h6, h7, hrest⟩ := h c
    exact ⟨h0.trans (q_array m c), h1.trans (k_array m c), h2.trans (v_array m c), h3.trans (o_array m c), h4.trans (u_array m c),
      h5.trans (g_array m c), h6.trans (wo_array m c), h7.trans (wf_array m c), hrest⟩
  · refine (θ_run _ _ _).mono (fun r h c => ?_) (Cert.Reference2Ideal.Value.run (F := Ideal) m' g')
    obtain ⟨h0, h1, h2, h3, h4, h5, h6, h7, hrest⟩ := h c
    obtain ⟨e0, e1, e2, e3, e4, e5⟩ := hargs c
    refine ⟨(h0.trans (val_main_v45_eq _ _ _ _)).trans ?_, (h1.trans (val_main_v48_eq _ _ _ _)).trans ?_,
      (h2.trans (val_main_v49_eq _ _ _ _)).trans ?_, (h3.trans (val_main_v50_eq _ _ _ _)).trans ?_,
      (h4.trans (val_main_v51_eq _ _ _ _)).trans ?_, (h5.trans (val_main_v44_eq _ _ _ _)).trans ?_,
      (h6.trans (val_main_v52_eq _)).trans ?_, (h7.trans (val_main_v53_eq _)).trans ?_, hrest⟩
    · show _ = refQ m c
      unfold refQ
      rw [← e0, ← e1, ← e2, ← e3]
    · show _ = refK m c
      unfold refK
      rw [← e0, ← e1, ← e2, ← e3]
    · show _ = refV m c
      unfold refV
      rw [← e0, ← e1, ← e2, ← e3]
    · show _ = refO m c
      unfold refO
      rw [← e0, ← e1, ← e2, ← e3]
    · show _ = refU m c
      unfold refU
      rw [← e0, ← e1, ← e2, ← e3]
    · show _ = refG m c
      unfold refG
      rw [← e0, ← e1, ← e2, ← e3]
    · show _ = refWo m c
      unfold refWo
      rw [← e4]
    · show _ = refWf m c
      unfold refWf
      rw [← e5]

end Cert.Inproj
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Pre_pool_input_finite
public import proofs.«01_k».proof.Proof.Gen.KernelIdeal.Value
public import proofs.«01_k».proof.Proof.Gen.Kernel2Ideal.Value
public import proofs.«01_k».proof.Proof.Gen.Kernel3Ideal.Value
public import proofs.«01_k».proof.Proof.Gen.ReferenceIdeal.Run
public import proofs.«01_k».proof.Proof.Gen.ReferenceIdeal.Read
public import proofs.«01_k».proof.Proof.Gen.Reference2Ideal.Run
public import proofs.«01_k».proof.Proof.Gen.Reference2Ideal.Read
public import proofs.«01_k».proof.Proof.Gen.Reference3Ideal.Run
public import proofs.«01_k».proof.Proof.Gen.Reference3Ideal.Read
public import proofs.«01_k».proof.Proof.Adaln
public import proofs.«01_k».proof.Proof.Outffn.Result
public import proofs.«01_k».proof.Proof.Inproj
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The first reference terminates, keeps its arguments, and has no semaphore to leave counting. -/
theorem frame_reference : @Cert.quiescent_ReferenceIdeal Cert.ReferenceIdeal.Gen.facts := fun m ρ _ =>
  (θ_run _ _ _).mono (fun r h => ⟨fun c => (h c).2, Idealize.ShloMosaic.sem_eq_zero_of_no_sems (by decide) r.2⟩)
    (Cert.ReferenceIdeal.Value.run (F := Ideal) m ρ)

/-- The second reference terminates, keeps its arguments, and has no semaphore to leave counting. -/
theorem frame_reference2 : @Cert.quiescent_Reference2Ideal Cert.Reference2Ideal.Gen.facts := fun m ρ _ =>
  (θ_run _ _ _).mono (fun r h => ⟨fun c => (h c).2.2.2.2.2.2.2.2, Idealize.ShloMosaic.sem_eq_zero_of_no_sems (by decide) r.2⟩)
    (Cert.Reference2Ideal.Value.run (F := Ideal) m ρ)

/-- The third reference terminates, keeps its arguments, and has no semaphore to leave counting. -/
theorem frame_reference3 : @Cert.quiescent_Reference3Ideal Cert.Reference3Ideal.Gen.facts := fun m ρ _ =>
  (θ_run _ _ _).mono (fun r h => ⟨fun c => (h c).2, Idealize.ShloMosaic.sem_eq_zero_of_no_sems (by decide) r.2⟩)
    (Cert.Reference3Ideal.Value.run (F := Ideal) m ρ)

/-- Every claim of the statement. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Pre_pool_input_finite.Gen.facts,
  fun m ρ _ => Cert.Kernel.Gen.frame m ρ,
  fun m ρ _ => Cert.KernelIdeal.Gen.frame m ρ,
  fun m ρ _ => Cert.KernelIdeal.Gen.frame m ρ,
  frame_reference,
  fun m ρ _ => frame_reference m ρ trivial,
  fun m ρ _ => Cert.Kernel2.Gen.frame m ρ,
  fun m ρ _ => Cert.Kernel2Ideal.Gen.frame m ρ,
  frame_reference2,
  fun m ρ _ => Cert.Kernel3.Gen.frame m ρ,
  fun m ρ _ => Cert.Kernel3Ideal.Gen.frame m ρ,
  frame_reference3,
  trivial, Cert.Outffn.algebraic,
  trivial, Cert.Inproj.algebraic,
  trivial, Cert.Adaln.algebraic⟩

end Cert.Proof

end
